-- ==== Defs.lean ====
def Pre_Kernel [hPre_in_plane : Cert.Pre_in_plane.Facts] (m : (ℓ : Loc Cert.Kernel.nD Cert.Kernel.τ Cert.Kernel.sig) → Buf (Elt Bits) ℓ) : Prop :=
  ∀ c : Dev Cert.Kernel.nD,
    (Cert.Pre_in_plane.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_plane : Cert.Pre_in_plane.Facts] (m : (ℓ : Loc Cert.KernelIdeal.nD Cert.KernelIdeal.τ Cert.KernelIdeal.sig) → Buf (Elt Ideal) ℓ) : Prop :=
  ∀ c : Dev Cert.KernelIdeal.nD,
    (Cert.Pre_in_plane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_plane [hPre_in_plane : Cert.Pre_in_plane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_plane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_plane : Cert.Pre_in_plane.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_plane : Cert.Pre_in_plane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_plane [hReferenceIdeal : Cert.ReferenceIdeal.Facts] [hPre_in_plane : Cert.Pre_in_plane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_plane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_plane : Cert.Pre_in_plane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_plane : Cert.Pre_in_plane.Facts),
    quiescent_Kernel (hKernel := hKernel) (hPre_in_plane := hPre_in_plane)
    ∧ quiescent_KernelIdeal (hKernelIdeal := hKernelIdeal) (hPre_in_plane := hPre_in_plane)
    ∧ quiescent_ReferenceIdeal (hReferenceIdeal := hReferenceIdeal)
    ∧ quiescent_ReferenceIdeal_pre_in_plane (hReferenceIdeal := hReferenceIdeal) (hPre_in_plane := hPre_in_plane)
    ∧ preserves_Kernel_KernelIdeal
    ∧ algebraic_KernelIdeal_ReferenceIdeal (hKernelIdeal := hKernelIdeal) (hReferenceIdeal := hReferenceIdeal) (hPre_in_plane := hPre_in_plane)
-- ==== Pre_in_plane.lean ====
abbrev S4x1024x1024 : Shape := ⟨3, ![4, 1024, 1024]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩

class Facts : Prop where
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64_S_d0 : S64.ReducesTo [0] S_
  h_S_ : 0 < S_.numel
  reducesTo_S64x64_S_d0_1 : S64x64.ReducesTo [0, 1] S_

variable [Facts]

def fn_part1 {F : FTy → Type} [FloatOps F] (main_arg3 : IVec S64 32) (main_v15 : IVec S64x64 1) (main_v20 : IVec S64 1) : IVec S_ 1 :=
  let main_c_2 : IVec S_ 1 := constantI S_ 1 1#1
  let main_v21 : IVec S_ 1 := (fun x v => Host.reduce IntOp.andi x v reducesTo_S64_S_d0 h_S_) main_v20 main_c_2
  let main_c_3 : IVec S_ 32 := constantI S_ 32 0#32
  let main_v22 : IVec S64 32 := broadcastInDim S64 ![] bcast_S_S64 main_c_3
  let main_v23 : IVec S64 1 := cmpi .sge main_arg3 main_v22
  let main_c_4 : IVec S_ 32 := constantI S_ 32 1024#32
  let main_v24 : IVec S64 32 := broadcastInDim S64 ![] bcast_S_S64 main_c_4
  let main_v25 : IVec S64 1 := cmpi .slt main_arg3 main_v24
  let main_v26 : IVec S64 1 := andi main_v23 main_v25
  let main_c_5 : IVec S_ 1 := constantI S_ 1 1#1
  let main_v27 : IVec S_ 1 := (fun x v => Host.reduce IntOp.andi x v reducesTo_S64_S_d0 h_S_) main_v26 main_c_5
  let main_v28 : IVec S_ 1 := andi main_v21 main_v27
  let main_v29 : IVec S64x64 1 := noti main_v15
  let main_c_6 : IVec S_ 1 := constantI S_ 1 1#1
  let main_v30 : IVec S_ 1 := (fun x v => Host.reduce IntOp.andi x v reducesTo_S64x64_S_d0_1 h_S_) main_v29 main_c_6
  let main_v31 : IVec S_ 1 := andi main_v28 main_v30
  main_v31

def fn {F : FTy → Type} [FloatOps F] (main_arg0 : FVec F S4x1024x1024 .f32) (main_arg1 : FVec F S64 .f32) (main_arg2 : IVec S64 32) (main_arg3 : IVec S64 32) : IVec S_ 1 :=
  let main_c : IVec S_ 32 := constantI S_ 32 1024#32
  let main_v0 : IVec S64 32 := broadcastInDim S64 ![] bcast_S_S64 main_c
  let main_v1 : IVec S64 32 := muli main_arg2 main_v0
  let main_v2 : IVec S64 32 := addi main_v1 main_arg3
  let main_v3 : IVec S64x1 32 := broadcastInDim S64x1 ![0] bcast_S64_S64x1_0 main_v2
  let main_v4 : IVec S1x64 32 := broadcastInDim S1x64 ![1] bcast_S64_S1x64_1 main_v2
  let main_v5 : IVec S64x64 32 := broadcastInDim S64x64 ![0, 1] bcast_S64x1_S64x64_0_1 main_v3
  let main_v6 : IVec S64x64 32 := broadcastInDim S64x64 ![0, 1] bcast_S1x64_S64x64_0_1 main_v4
  let main_v7 : IVec S64x64 1 := cmpi .eq main_v5 main_v6
  let main_v8 : IVec S64 32 := iotaInDim S64 32 0
  let main_v9 : IVec S64x1 32 := broadcastInDim S64x1 ![0] bcast_S64_S64x1_0 main_v8
  let main_v10 : IVec S64 32 := iotaInDim S64 32 0
  let main_v11 : IVec S1x64 32 := broadcastInDim S1x64 ![1] bcast_S64_S1x64_1 main_v10
  let main_v12 : IVec S64x64 32 := broadcastInDim S64x64 ![0, 1] bcast_S64x1_S64x64_0_1 main_v9
  let main_v13 : IVec S64x64 32 := broadcastInDim S64x64 ![0, 1] bcast_S1x64_S64x64_0_1 main_v11
  let main_v14 : IVec S64x64 1 := cmpi .ne main_v12 main_v13
  let main_v15 : IVec S64x64 1 := andi main_v7 main_v14
  let main_c_0 : IVec S_ 32 := constantI S_ 32 0#32
  let main_v16 : IVec S64 32 := broadcastInDim S64 ![] bcast_S_S64 main_c_0
  let main_v17 : IVec S64 1 := cmpi .sge main_arg2 main_v16
  let main_c_1 : IVec S_ 32 := constantI S_ 32 1024#32
  let main_v18 : IVec S64 32 := broadcastInDim S64 ![] bcast_S_S64 main_c_1
  let main_v19 : IVec S64 1 := cmpi .slt main_arg2 main_v18
  let main_v20 : IVec S64 1 := andi main_v17 main_v19
  fn_part1 (F := F) main_arg3 main_v15 main_v20
-- ==== Kernel.lean ====
abbrev S4x1024x1024 : Shape := ⟨3, ![4, 1024, 1024]⟩
abbrev S64 : Shape := ⟨1, ![64]⟩
abbrev S4194304 : Shape := ⟨1, ![4194304]⟩
abbrev S_ : Shape := ⟨0, ![]⟩
abbrev S16 : Shape := ⟨1, ![16]⟩

abbrev nBuf : Table → Nat
  | .hbm => 10
  | .local .scVector .vmem => 5
  | _ => 0

abbrev bufTy : (tb : Table) → Fin (nBuf tb) → BufTy
  | .hbm, ⟨0, _⟩ => ⟨S4x1024x1024, .f32⟩
  | .hbm, ⟨1, _⟩ => ⟨S64, .f32⟩
  | .hbm, ⟨2, _⟩ => ⟨S64, .i32⟩
  | .hbm, ⟨3, _⟩ => ⟨S64, .i32⟩
  | .hbm, ⟨4, _⟩ => ⟨S4194304, .f32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S4194304, .f32⟩
  | .hbm, ⟨9, _⟩ => ⟨S4x1024x1024, .f32⟩
  | .local .scVector .vmem, ⟨0, _⟩ => ⟨S64, .i32⟩
  | .local .scVector .vmem, ⟨1, _⟩ => ⟨S64, .i32⟩
  | .local .scVector .vmem, ⟨2, _⟩ => ⟨S64, .i32⟩
  | .local .scVector .vmem, ⟨3, _⟩ => ⟨S64, .f32⟩
  | .local .scVector .vmem, ⟨4, _⟩ => ⟨S64, .f32⟩
  | _, _ => ⟨S4x1024x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg1_scv : Ref sig .scVector := ⟨.hbm, 1, rfl⟩
abbrev main_v2_scv : Ref sig .scVector := ⟨.hbm, 7, rfl⟩
abbrev main_arg3_scv : Ref sig .scVector := ⟨.hbm, 3, rfl⟩
abbrev main_v3_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x1024 : Shape := ⟨3, ![4, 1024, 1024]⟩
abbrev S64 : Shape := ⟨1, ![64]⟩
abbrev S_ : Shape := ⟨0, ![]⟩
abbrev S64x1 : Shape := ⟨2, ![64, 1]⟩
abbrev S64x3 : Shape := ⟨2, ![64, 3]⟩

abbrev nBuf : Space → Nat
  | .hbm => 26
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S64, .f32⟩
  | .hbm, ⟨2, _⟩ => ⟨S64, .i32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S64x1, .i32⟩
  | .hbm, ⟨23, _⟩ => ⟨S64x1, .i32⟩
  | .hbm, ⟨24, _⟩ => ⟨S64x3, .i32⟩
  | .hbm, ⟨25, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.Places.lean ====
/-
  What the kernel computes, as mathematics of whole arrays.

  The arrays `x` and `y` hold sixty-four words each. Entry `k` names one PLACE of the flat array: the word
  `x k * 1024 + y k`. The kernel adds `bt k` to what the flat array holds at place `k`, for every `k`, and leaves
  every other element alone (`bumped`). Both facts that this needs of the words are collected in `Good`: the places lie
  inside the flat array, and no two entries name the same one.
-/
module

public import proofs.«01_k».proof.Proof.Gen.KernelIdeal
public import proofs.«01_k».proof.Proof.Gen.KernelIdeal.Skeleton

@[expose] public section

noncomputable section

namespace Cert.Places

open Cert.KernelIdeal Cert.KernelIdeal.Gen
open Idealize.ShloMosaic

variable {F : FTy → Type}

/-- The word that entry `k` of the two index arrays names. -/
def place (x y : S64.Idx → BitVec 32) : S64.Idx → BitVec 32 := fun k => x k * 1024#32 + y k

/-- The sixty-four places lie inside the flat array and are pairwise different. -/
structure Good (x y : S64.Idx → BitVec 32) : Prop where
  lt : ∀ k, (place x y k).toNat < 4194304
  inj : Function.Injective fun k => (place x y k).toNat

/-- The element of the flat array at a natural number below its length. -/
def flatAt (n : ℕ) (h : n < 4194304) : S4194304.Idx := fun
  | 0 => ⟨n, h⟩

/-- An element of the flat array is told by its one coordinate. -/
theorem flat_ext {p q : S4194304.Idx} (h : (p 0).val = (q 0).val) : p = q := by
  funext a
  match a with
  | 0 => exact Fin.ext h

variable [FloatOps F]

open Classical in
/-- The flat array after the kernel: at a named place the sum, elsewhere what was there. -/
def bumped (bt : S64.Idx → F .f32) (x y : S64.Idx → BitVec 32) (B : S4194304.Idx → F .f32) : S4194304.Idx → F .f32 :=
  fun p => if h : ∃ k, (place x y k).toNat = (p 0).val then FloatOps.addf (B p) (bt h.choose) else B p

/-- At a place that entry `k` names, the kernel leaves the old element plus `bt k`. -/
theorem bumped_named (bt : S64.Idx → F .f32) {x y : S64.Idx → BitVec 32} (hg : Good x y) (B : S4194304.Idx → F .f32)
    (p : S4194304.Idx) (k : S64.Idx) (hk : (place x y k).toNat = (p 0).val) : bumped bt x y B p = FloatOps.addf (B p) (bt k) := by
  have h : ∃ k, (place x y k).toNat = (p 0).val := ⟨k, hk⟩
  have e : h.choose = k := hg.inj (h.choose_spec.trans hk.symm)
  unfold bumped
  rw [dif_pos h, e]

/-- At a place that no entry names, the kernel leaves the old element. -/
theorem bumped_other (bt : S64.Idx → F .f32) (x y : S64.Idx → BitVec 32) (B : S4194304.Idx → F .f32)
    (p : S4194304.Idx) (hp : ∀ k, (place x y k).toNat ≠ (p 0).val) : bumped bt x y B p = B p := by
  unfold bumped
  rw [dif_neg fun ⟨k, hk⟩ => hp k hk]

end Cert.Places

end
-- ==== Proof.Setup.lean ====
/-
  The launch's set-up, shared by the task's proof and the program's: the configuration of the one SparseCore call, the
  resource algebra, the arrays' locations and the pieces of a vector subcore's own resources that the kernel uses.
-/
module

public import proofs.«01_k».proof.Defs
public import proofs.«01_k».proof.Proof.Places
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic

@[expose] public section

noncomputable section

namespace Cert.Bump

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the launched programs. -/
abbrev ΛP : Labels := Pipeline.Sig Λ₀ (Fin 0) fun p => (pcfgs (F := F) p).Adm
/-- The launch of the call. -/
abbrev K : SparseCore.Cfg τ sig (ΛP (F := F)) 1 := sc (F := F)
/-- The programs that the launch runs. -/
abbrev D [FloatOps F] : Defs nD τ sig (Elt F) (ΛP (F := F)) := Pipeline.defs pcfgs defs₀
/-- The kernel has no loop, so it needs no variant. -/
abbrev 𝒱₀ : Variants := Variants.none
/-- Nor does the launch. -/
abbrev 𝒱 : Variants := 𝒱₀.lift
/-- The value of the variant at launch. -/
abbrev v₀ : 𝒱.V := Sum.inl none

/-- The call's launch semaphores are distinct and none of them is a kernel's own; no buffer of a SparseCore is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

/-- The handshakes' part of the ghost state. -/
abbrev UH : Type := URounds (GSem nD τ sig) ℕ
/-- The whole ghost state. -/
abbrev UU : Type := UH × Counters

local notation "𝕄" => MT nD τ sig (HIx 1) (Elt F) ℕ UU ℕ

/-- Where the handshakes' part sits. -/
abbrev EH : Emb UH (MT nD τ sig (HIx 1) (Elt F) ℕ UU ℕ) := embL

/-! ## The arrays -/

/-- The argument array. -/
abbrev argB (d : Dev nD) : Loc nD τ sig := (SparseCore.T d).loc main_arg0
/-- The addends. -/
abbrev argBt (d : Dev nD) : Loc nD τ sig := (SparseCore.T d).loc main_arg1
/-- The row words. -/
abbrev argX (d : Dev nD) : Loc nD τ sig := (SparseCore.T d).loc main_arg2
/-- The column words. -/
abbrev argY (d : Dev nD) : Loc nD τ sig := (SparseCore.T d).loc main_arg3
/-- The row words as the kernel receives them. -/
abbrev rowWords (d : Dev nD) : Loc nD τ sig := (SparseCore.T d).loc main_v2
/-- The flat array that the kernel changes. -/
abbrev flat (d : Dev nD) : Loc nD τ sig := (SparseCore.T d).loc main_v3
/-- The program's result. -/
abbrev result (d : Dev nD) : Loc nD τ sig := (SparseCore.T d).loc main_v4

/-- The call's arrays as a tile sees them: the addends. -/
abbrev btM : Memref sig .scVector .hbm S64 .f32 := Memref.whole main_arg1_scv
/-- The row words. -/
abbrev xM : Memref sig .scVector .hbm S64 .i32 := Memref.whole main_v2_scv
/-- The column words. -/
abbrev yM : Memref sig .scVector .hbm S64 .i32 := Memref.whole main_arg3_scv
/-- The flat array. -/
abbrev flatM : Memref sig .scVector .hbm S4194304 .f32 := Memref.whole main_v3_scv
/-- The tile's scratch arrays: the row words' one. -/
abbrev xS : Memref sig .scVector .vmem S64 .i32 := Memref.whole cc0_scratch0
/-- The column words' scratch. -/
abbrev yS : Memref sig .scVector .vmem S64 .i32 := Memref.whole cc0_scratch1
/-- The places' scratch. -/
abbrev placeS : Memref sig .scVector .vmem S64 .i32 := Memref.whole cc0_scratch2
/-- The values' scratch. -/
abbrev valS : Memref sig .scVector .vmem S64 .f32 := Memref.whole cc0_scratch3
/-- The addends' scratch. -/
abbrev btS : Memref sig .scVector .vmem S64 .f32 := Memref.whole cc0_scratch4

/-! ## A vector subcore's own semaphores and buffers -/

section Own

variable (d : Dev nD) (c : Fin τ.nSC) (i : Fin τ.nSub)

/-- A transfer semaphore of a tile. -/
abbrev cell (s : DmaSems sig S_) : GSem nD τ sig := (V d c i, .dma s.sem)

/-- The four cells that the kernel's transfers use. -/
def usedCells : Finset (GSem nD τ sig) :=
  {cell d c i cc0_scratch5, cell d c i cc0_scoped0, cell d c i cc0_scoped1, cell d c i cc0_scoped2}

/-- The five scratch arrays. -/
def usedRefs : Finset (DevRef τ sig) :=
  {(Proc.scVector c i).devRef cc0_scratch0, (Proc.scVector c i).devRef cc0_scratch1, (Proc.scVector c i).devRef cc0_scratch2,
    (Proc.scVector c i).devRef cc0_scratch3, (Proc.scVector c i).devRef cc0_scratch4}

/-- Different semaphores of a tile are different cells. -/
theorem cell_ne {s s' : DmaSems sig S_} (h : s.sem ≠ s'.sem) : cell d c i s ≠ cell d c i s' := fun e =>
  h (SemLoc.dma.inj (Prod.ext_iff.mp e).2)

/-- Different scratch arrays of a tile are different arrays. -/
theorem ref_ne {b b' : Ref sig .scVector} (h : b ≠ b') : (Proc.scVector c i).devRef b ≠ (Proc.scVector c i).devRef b' := fun e =>
  h (Proc.devRef_injective _ e)

/-- A semaphore that the kernel allocates is the tile's own. -/
theorem cell_own (s : DmaSems sig S_) (h : (SemLoc.dma s.sem : SemLoc sig).isScoped .scVector = true) : cell d c i s ∈ ownCells (V d c i) :=
  mem_ownCells.mpr ⟨rfl, h⟩

/-- The cells used are the tile's own. -/
theorem usedCells_sub : usedCells d c i ⊆ ownCells (V d c i) := by
  intro g hg
  simp only [usedCells, Finset.mem_insert, Finset.mem_singleton] at hg
  rcases hg with rfl | rfl | rfl | rfl <;> exact cell_own d c i _ (by decide)

/-- The scratch arrays are the tile's own. -/
theorem usedRefs_sub : usedRefs c i ⊆ ownRefs (τ := τ) (.scVector c i) := by
  intro b hb
  simp only [usedRefs, Finset.mem_insert, Finset.mem_singleton] at hb
  rcases hb with rfl | rfl | rfl | rfl | rfl <;> exact SparseCore.Cfg.mem_ownRefs_of_owner rfl

/-- A subcore's own semaphores at zero: the kernel's four cells and the rest. -/
theorem ownSems0_split :
    (ownSems0 (V d c i) : sProp 𝕄)
      = iprop((semVal (cell d c i cc0_scratch5) 0 ∗ semVal (cell d c i cc0_scoped0) 0 ∗ semVal (cell d c i cc0_scoped1) 0
          ∗ semVal (cell d c i cc0_scoped2) 0) ∗ bigSep (ownCells (V d c i) \ usedCells d c i) fun g => semVal g 0) := by
  unfold SparseCore.Cfg.ownSems0
  rw [BI.bigSep_sdiff_split (usedCells_sub d c i)]
  conv_lhs => arg 1; unfold usedCells
  rw [SparseCore.bigSep_insert', SparseCore.bigSep_insert', SparseCore.bigSep_insert', bigSep_singleton]
  · rfl
  all_goals
    simp only [Finset.mem_insert, Finset.mem_singleton, not_or]
    refine ?_
  · exact cell_ne d c i (by decide)
  · exact ⟨cell_ne d c i (by decide), cell_ne d c i (by decide)⟩
  · exact ⟨cell_ne d c i (by decide), cell_ne d c i (by decide), cell_ne d c i (by decide)⟩

/-- An array held whole, whatever it holds. -/
abbrev someBuf (b : DevRef τ sig) : sProp 𝕄 := iprop(∃ f, ((d, b) : Loc nD τ sig) ↦{fullShare} f)

/-- A subcore's own buffers at some contents: the five scratch arrays and the rest. -/
theorem ownBufs_split :
    (ownBufs (V d c i) : sProp 𝕄)
      = iprop(((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ ∃ f, (V d c i).loc cc0_scratch4 ↦{fullShare} f)
        ∗ bigSep (ownRefs (τ := τ) (.scVector c i) \ usedRefs c i) fun b => someBuf d b) := by
  unfold SparseCore.Cfg.ownBufs
  refine (BI.bigSep_sdiff_split (usedRefs_sub c i)).trans ?_
  conv_lhs => arg 1; unfold usedRefs
  rw [SparseCore.bigSep_insert', SparseCore.bigSep_insert', SparseCore.bigSep_insert', SparseCore.bigSep_insert', bigSep_singleton]
  · rfl
  all_goals simp only [Finset.mem_insert, Finset.mem_singleton, not_or]
  · exact ref_ne c i (by decide)
  · exact ⟨ref_ne c i (by decide), ref_ne c i (by decide)⟩
  · exact ⟨ref_ne c i (by decide), ref_ne c i (by decide), ref_ne c i (by decide)⟩
  · exact ⟨ref_ne c i (by decide), ref_ne c i (by decide), ref_ne c i (by decide), ref_ne c i (by decide)⟩

end Own

end Cert.Bump

end
-- ==== Proof.Chunks.lean ====
/-
  The scratch arrays of sixty-four elements are filled sixteen at a time. What four such stores leave, read element by
  element: the first four stores leave the places, the last four the sums.
-/
module

public import proofs.«01_k».proof.Proof.Setup
public import Idealize.ShloMosaic.Lib.Pipeline.Value

@[expose] public section

noncomputable section

namespace Cert.Bump

open Cert.KernelIdeal Cert.KernelIdeal.Gen Cert.Places
open Idealize.ShloMosaic

variable {F : FTy → Type} [FloatOps F]

/-- The sixteen elements from `o` on. -/
abbrev chunk (o : ℕ) (h : ∀ a, (![o] : Fin 1 → ℕ) a + S16.size a ≤ S64.size a) : Rect S64 := Rect.unit (s := S64) ![o] S16.size h

/-- Element `j` of the chunk from `o` on is the array's element `o + j`. -/
theorem chunk_emb_val (o : ℕ) (h : ∀ a, (![o] : Fin 1 → ℕ) a + S16.size a ≤ S64.size a) (j : (chunk o h).shape.Idx) :
    ((chunk o h).emb j 0).val = o + (j 0).val := by
  rw [Rect.emb_apply]
  show o + 1 * (j 0).val = _
  omega

section Stores

variable {sp : Space} {e : EltTy} (v : View sig .scVector sp S64 e)

/-- A load of sixteen elements reads the array at each of them. -/
theorem load_chunk (o : ℕ) (h) (f : v.ty.Contents (Elt F)) (j : (chunk o h).shape.Idx) :
    v.readAt (Elt F) (chunk o h).toLoadRect f j = v.read (Elt F) f ((chunk o h).emb j) := rfl

/-- A load of sixteen elements just after the whole array was fetched reads what was fetched. -/
theorem load_fetched (o : ℕ) (h) (f : v.ty.Contents (Elt F)) (w : S64.Idx → Elt F e) (j : (chunk o h).shape.Idx) :
    v.readAt (Elt F) (chunk o h).toLoadRect (v.write (Elt F) f w Finset.univ) j = w ((chunk o h).emb j) := by
  rw [load_chunk, View.read_write_univ]

/-- Elements of one chunk are not touched by a store into a different one. -/
theorem skip_chunk (f : v.ty.Contents (Elt F)) (L : List (View.Piece (Elt F) S64 e)) (o o' : ℕ) (h h')
    (w : (chunk o' h').shape.Idx → Elt F e) (ho : o + 16 ≤ o' ∨ o' + 16 ≤ o) (j : (chunk o h).shape.Idx) :
    v.read (Elt F) (v.writes (Elt F) f (⟨chunk o' h', w⟩ :: L)) ((chunk o h).emb j) = v.read (Elt F) (v.writes (Elt F) f L) ((chunk o h).emb j) := by
  have hj : (j 0).val < 16 := (j 0).isLt
  have hv := chunk_emb_val o h j
  exact View.read_writes_cons_miss_of_axis v f _ _ _ 0 o' 16 rfl rfl rfl (by omega)

/-- A store of the whole array leaves its payload everywhere. -/
theorem after_whole (f : v.ty.Contents (Elt F)) (L : List (View.Piece (Elt F) S64 e)) (w : S64.Idx → Elt F e) (k : S64.Idx) :
    v.read (Elt F) (v.writes (Elt F) f (⟨Rect.whole S64, w⟩ :: L)) k = w k :=
  View.read_writes_cons_hit_of_coords v f (Rect.whole S64) w L k k fun a => by
    show _ = 0 + 1 * (k a).val
    omega

/-- Four stores that fill the four chunks from one function leave that function. -/
theorem four_chunks (G : S64.Idx → Elt F e) (f : v.ty.Contents (Elt F)) (L : List (View.Piece (Elt F) S64 e))
    (h0 h1 h2 h3) (w0 w1 w2 w3 : S16.Idx → Elt F e)
    (e0 : ∀ j, w0 j = G ((chunk 0 h0).emb j)) (e1 : ∀ j, w1 j = G ((chunk 16 h1).emb j))
    (e2 : ∀ j, w2 j = G ((chunk 32 h2).emb j)) (e3 : ∀ j, w3 j = G ((chunk 48 h3).emb j)) (k : S64.Idx) :
    v.read (Elt F) (v.writes (Elt F) f (⟨chunk 48 h3, w3⟩ :: ⟨chunk 32 h2, w2⟩ :: ⟨chunk 16 h1, w1⟩ :: ⟨chunk 0 h0, w0⟩ :: L)) k = G k := by
  have hk : (k 0).val < 64 := (k 0).isLt
  have place_in : ∀ (o : ℕ) (h : ∀ a, (![o] : Fin 1 → ℕ) a + S16.size a ≤ S64.size a), o ≤ (k 0).val → (k 0).val < o + 16 → ∃ j : (chunk o h).shape.Idx, (chunk o h).emb j = k := by
    intro o h hl hu
    refine ⟨fun | 0 => ⟨(k 0).val - o, by show _ < 16; omega⟩, ?_⟩
    funext a
    match a with
    | 0 =>
      apply Fin.ext
      rw [chunk_emb_val]
      show o + ((k 0).val - o) = _
      omega
  by_cases c3 : 48 ≤ (k 0).val
  · obtain ⟨j, rfl⟩ := place_in 48 h3 c3 (by omega)
    rw [View.read_writes_cons_emb, e3]
  by_cases c2 : 32 ≤ (k 0).val
  · obtain ⟨j, rfl⟩ := place_in 32 h2 c2 (by omega)
    rw [skip_chunk v f _ 32 48 h2 h3 w3 (by omega), View.read_writes_cons_emb, e2]
  by_cases c1 : 16 ≤ (k 0).val
  · obtain ⟨j, rfl⟩ := place_in 16 h1 c1 (by omega)
    rw [skip_chunk v f _ 16 48 h1 h3 w3 (by omega), skip_chunk v f _ 16 32 h1 h2 w2 (by omega), View.read_writes_cons_emb, e1]
  · obtain ⟨j, rfl⟩ := place_in 0 h0 (by omega) (by omega)
    rw [skip_chunk v f _ 0 48 h0 h3 w3 (by omega), skip_chunk v f _ 0 32 h0 h2 w2 (by omega), skip_chunk v f _ 0 16 h0 h1 w1 (by omega),
      View.read_writes_cons_emb, e0]

end Stores

/-! ## What one step on sixteen elements computes -/

/-- The places of chunk 1: row word times 1024 plus column word. -/
theorem pay_place1 (a b : Vec F S16 .i32) : k0_pay1 a b = fun j => a j * 1024#32 + b j := by
  unfold k0_pay1; simp only [shapeCast_self]; rfl
/-- The places of chunk 2: row word times 1024 plus column word. -/
theorem pay_place2 (a b : Vec F S16 .i32) : k0_pay2 a b = fun j => a j * 1024#32 + b j := by
  unfold k0_pay2; simp only [shapeCast_self]; rfl
/-- The places of chunk 3: row word times 1024 plus column word. -/
theorem pay_place3 (a b : Vec F S16 .i32) : k0_pay3 a b = fun j => a j * 1024#32 + b j := by
  unfold k0_pay3; simp only [shapeCast_self]; rfl
/-- The places of chunk 4: row word times 1024 plus column word. -/
theorem pay_place4 (a b : Vec F S16 .i32) : k0_pay6 (k0_pay4 a) (k0_pay5 b) = fun j => a j * 1024#32 + b j := by
  unfold k0_pay6 k0_pay4 k0_pay5; simp only [shapeCast_self]; rfl
/-- The sums of chunk 1: gathered value plus addend. -/
theorem pay_sum1 (a b : Vec F S16 .f32) : k0_pay7 a b = fun j => FloatOps.addf (a j) (b j) := by
  unfold k0_pay7; simp only [shapeCast_self]; rfl
/-- The sums of chunk 2: gathered value plus addend. -/
theorem pay_sum2 (a b : Vec F S16 .f32) : k0_pay8 a b = fun j => FloatOps.addf (a j) (b j) := by
  unfold k0_pay8; simp only [shapeCast_self]; rfl
/-- The sums of chunk 3: gathered value plus addend. -/
theorem pay_sum3 (a b : Vec F S16 .f32) : k0_pay9 a b = fun j => FloatOps.addf (a j) (b j) := by
  unfold k0_pay9; simp only [shapeCast_self]; rfl
/-- The sums of chunk 4: gathered value plus addend. -/
theorem pay_sum4 (a b : Vec F S16 .f32) : k0_pay10 a b = fun j => FloatOps.addf (a j) (b j) := by
  unfold k0_pay10; simp only [shapeCast_self]; rfl

end Cert.Bump

end
-- ==== Proof.Streams.lean ====
/-
  The two indirect transfers, as functions of whole arrays: the gather brings entry `k` the element of the flat array at
  place `k`; the scatter writes entry `k` at place `k` and leaves every other element.
-/
module

public import proofs.«01_k».proof.Proof.Chunks

@[expose] public section

noncomputable section

namespace Cert.Bump

open Cert.KernelIdeal Cert.KernelIdeal.Gen Cert.Places
open Idealize.ShloMosaic
open Idealize.ShloMosaic.SparseCore (V)

variable {F : FTy → Type} [FloatOps F]

/-- All of the flat array, as the two transfers address it. -/
abbrev flatAll : Memref sig .scVector .hbm S4194304 .f32 :=
  flatM.slice (Rect.unit (s := S4194304) ![0] S4194304.size inb_S4194304_S4194304_0) (fun _ => rfl)

/-- The entry of the list at position `n`. -/
abbrev entry (n : Fin 64) : S64.Idx := S64.rowMajor.symm n

/-- The entry at position `n` has coordinate `n`. -/
theorem entry_zero (n : Fin 64) : (entry n 0).val = n.val := by
  have h := Shape.rowMajor_val_one (d := S64.size) (entry n)
  rw [← h]
  exact congrArg Fin.val (S64.rowMajor.apply_symm_apply n)

/-- The entry at an entry's own coordinate is that entry. -/
theorem entry_of (k : S64.Idx) : entry (k 0) = k := by
  funext a
  match a with
  | 0 => exact Fin.ext (entry_zero (k 0))

/-- Addressed as a whole, each element of the flat array is itself. -/
theorem flatAll_emb (p : S4194304.Idx) : flatAll.view.emb p = p := by
  apply flat_ext
  show 0 + 1 * (p 0).val = _
  omega

/-- Read as a whole, the flat array is its contents. -/
theorem flatAll_read (B : S4194304.Idx → F .f32) : flatAll.view.read (Elt F) B = B := by
  funext p
  show B (flatAll.view.emb p) = B p
  rw [flatAll_emb]

variable {x y : S64.Idx → BitVec 32} (hg : Good x y)

/-- The gather over the places delivers, at entry `k`, the flat array's element at place `k`. -/
theorem gathered (B : S4194304.Idx → F .f32) (hn : S64.numel = S64.size gathers_S4194304_S64.axis')
    (hin : ∀ k, (place x y k).toNat < S4194304.size gathers_S4194304_S64.axis) (k : S64.Idx) :
    SparseCore.gatherPayload (F := F) (e := .f32) gathers_S4194304_S64 (flatAll.view.read (Elt F) B) (SparseCore.rows (F := F) (place x y) hn hin) k
      = B (flatAt _ (hg.lt k)) := by
  rw [flatAll_read]
  unfold SparseCore.gatherPayload
  congr 1
  apply flat_ext
  have h := congrArg Fin.val (Shape.Gathers.idx_axis gathers_S4194304_S64 (SparseCore.rows (F := F) (place x y) hn hin) k)
  refine h.trans ?_
  show (place x y (entry (k 0))).toNat = (place x y k).toNat
  rw [entry_of]

section Scatter

variable (d : Dev nD) (c : Fin τ.nSC) (i : Fin τ.nSub)

/-- What the scatter carries for entry `n` of its list is entry `n` of the array it reads. -/
theorem carried (G : S64.Idx → F .f32) (n : Fin 64) (j : (S4194304.rowShape gathers_S4194304_S64.axis).Idx) :
    SparseCore.scatterRowPayload (F := F) (V d c i) valS gathers_S4194304_S64 G n j = G (entry n) := by
  show G ((S64.rowRect gathers_S4194304_S64.axis' n).emb _) = G (entry n)
  congr 1
  funext a
  match a with
  | 0 => exact Fin.ext ((congrArg Fin.val (Shape.rowRect_emb_axis (s := S64) gathers_S4194304_S64.axis' n _)).trans (entry_zero n).symm)

/-- The scatter of the sums over the places leaves the flat array as the kernel is to leave it. -/
theorem scattered (bt : S64.Idx → F .f32) (B : S4194304.Idx → F .f32) (G : S64.Idx → F .f32)
    (hG : ∀ k, G k = FloatOps.addf (B (flatAt _ (hg.lt k))) (bt k))
    (hn : S64.numel = S64.size gathers_S4194304_S64.axis') (hin : ∀ k, (place x y k).toNat < S4194304.size gathers_S4194304_S64.axis) :
    SparseCore.scatterBuf (F := F) (V d c i) flatAll.view gathers_S4194304_S64.axis (SparseCore.rows (F := F) (place x y) hn hin)
        (SparseCore.scatterRowPayload (F := F) (V d c i) valS gathers_S4194304_S64 G) B
      = bumped bt x y B := by
  funext p
  by_cases h : ∃ k, (place x y k).toNat = (p 0).val
  · obtain ⟨k, hk⟩ := h
    have hr : (SparseCore.rows (F := F) (place x y) hn hin (k 0)) = p 0 := by
      apply Fin.ext
      show (place x y (entry (k 0))).toNat = _
      rw [entry_of, hk]
    let j : (S4194304.rowShape gathers_S4194304_S64.axis).Idx := S4194304.rowProj gathers_S4194304_S64.axis p
    have hp : (flatAll.view.slice (S4194304.rowRect gathers_S4194304_S64.axis (SparseCore.rows (F := F) (place x y) hn hin (k 0)))).emb j = p := by
      rw [hr]
      show flatAll.view.emb ((S4194304.rowRect gathers_S4194304_S64.axis (p 0)).emb j) = p
      rw [flatAll_emb]
      exact Shape.rowRect_emb_rowProj _ p
    have hm : p ∈ (flatAll.view.slice (S4194304.rowRect gathers_S4194304_S64.axis (SparseCore.rows (F := F) (place x y) hn hin (k 0)))).set := by
      refine Finset.mem_map.mpr ⟨j, Finset.mem_univ _, hp⟩
    rw [SparseCore.scatterBuf_of_mem (V d c i) flatAll.view gathers_S4194304_S64.axis _ (SparseCore.rows_injective hg.inj) _ B (k := k 0) hm,
      bumped_named bt hg B p k hk]
    have hw := View.write_emb_of_mem (Val := Elt F)
      (v := flatAll.view.slice (S4194304.rowRect gathers_S4194304_S64.axis (SparseCore.rows (F := F) (place x y) hn hin (k 0)))) B
      (SparseCore.scatterRowPayload (F := F) (V d c i) valS gathers_S4194304_S64 G (k 0)) (M := Finset.univ) (x := j) (Finset.mem_univ _)
    rw [hp] at hw
    refine hw.trans ?_
    show SparseCore.scatterRowPayload (F := F) (V d c i) valS gathers_S4194304_S64 G (k 0) j = _
    have hf : flatAt (place x y k).toNat (hg.lt k) = p := flat_ext hk
    refine (carried d c i G (k 0) j).trans ?_
    rw [entry_of, hG, hf]
  · have hno : ∀ k, (place x y k).toNat ≠ (p 0).val := fun k hk => h ⟨k, hk⟩
    rw [SparseCore.scatterBuf_of_not_mem, bumped_other bt x y B p hno]
    intro hm
    obtain ⟨n, _, hm⟩ := Finset.mem_biUnion.mp hm
    obtain ⟨j, _, hj⟩ := Finset.mem_map.mp hm
    refine hno (entry n) ?_
    have hv : p = (S4194304.rowRect gathers_S4194304_S64.axis (SparseCore.rows (F := F) (place x y) hn hin n)).emb j := by
      rw [← hj]
      exact flatAll_emb _
    rw [hv]
    exact (congrArg Fin.val (Shape.rowRect_emb_axis gathers_S4194304_S64.axis (SparseCore.rows (F := F) (place x y) hn hin n) j)).symm

end Scatter

end Cert.Bump

end
-- ==== Proof.Task.lean ====
/-
  What one tile does. Tile 0 of SparseCore 0, handed the four arrays of the call, hands them back with the flat array
  bumped (`task_works`); every other tile does nothing (`task_idle`).
-/
module

public import proofs.«01_k».proof.Proof.Streams

@[expose] public section

noncomputable section

namespace Cert.Bump

open Cert.KernelIdeal Cert.KernelIdeal.Gen Cert.Places
open Idealize.ShloMosaic
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The SparseCore of a grid position. -/
abbrev cV (L : grid0.Coords) : Fin τ.nSC := (L 0).castLE hcore0
/-- The tile of a grid position. -/
abbrev jV (L : grid0.Coords) : Fin τ.nSub := (L 1).castLE hsub0

/-- The kernel's test of its grid position, as it computes it. -/
def isFirst (L : grid0.Coords) : BitVec 1 :=
  Scalar.cmpi .ne (Scalar.extui (Scalar.andi (Scalar.cmpi .eq (BitVec.ofNat 32 (L 0).val) 0#32) (Scalar.cmpi .eq (BitVec.ofNat 32 (L 1).val) 0#32)) : BitVec 32) 0#32

/-- It passes exactly on tile 0 of core 0. -/
theorem isFirst_iff : isFirst L = 1#1 ↔ (L 0).val = 0 ∧ (L 1).val = 0 := by
  have key : ∀ (a : Fin 2) (b : Fin 16), (Scalar.cmpi .ne (Scalar.extui (Scalar.andi (Scalar.cmpi .eq (BitVec.ofNat 32 a.val) 0#32) (Scalar.cmpi .eq (BitVec.ofNat 32 b.val) 0#32)) : BitVec 32) 0#32 = 1#1)
      ↔ (a.val = 0 ∧ b.val = 0) := by decide
  exact key (L 0) (L 1)

/-- The kernel at a grid position, on the call's arrays and the tile's scratch. -/
abbrev body (L : grid0.Coords) : Prog (TpuEff nD τ sig (Elt F) Λ₀ (.scVector (cV L) (jV L))) PUnit :=
  cc0__scatter_body L btM (Memref.isWhole_whole _) xM (Memref.isWhole_whole _) yM (Memref.isWhole_whole _)
    flatM (Memref.isWhole_whole _) flatM (Memref.isWhole_whole _) xS (Memref.isWhole_whole _) yS (Memref.isWhole_whole _)
    placeS (Memref.isWhole_whole _) valS (Memref.isWhole_whole _) btS (Memref.isWhole_whole _)
    cc0_scratch5 cc0_scoped0 cc0_scoped1 cc0_scoped2

set_option maxHeartbeats 4000000 in
/-- A tile that is not the first hands back what it is handed. -/
theorem task_idle (hL : ¬((L 0).val = 0 ∧ (L 1).val = 0)) (R : sProp 𝕄) :
    R ⊢ wp frame (wpE (defs₀ (F := F)) 𝒱₀ (V d (cV L) (jV L)) none) Set.univ (body (F := F) L) fun _ => R := by
  unfold body
  simp only [cc0__scatter_body_eq_skeleton]; unfold cc0__scatter_body_skel
  have h : ¬ isFirst L = 1#1 := fun e => hL ((isFirst_iff L).mp e)
  unfold isFirst at h
  simp only [h, dite_false, pure_bind]
  iintro H
  sl_step
  iexact H

/-- The four arrays of the call, held whole: the addends, the row words, the column words, the flat array. -/
abbrev arrays (d : Dev nD) (bt : Buf (Elt F) (argBt d)) (x : Buf (Elt F) (rowWords d)) (y : Buf (Elt F) (argY d)) (B : Buf (Elt F) (flat d)) : sProp 𝕄 :=
  iprop((argBt d ↦{fullShare} bt) ∗ (rowWords d ↦{fullShare} x) ∗ (argY d ↦{fullShare} y) ∗ flat d ↦{fullShare} B)

set_option maxHeartbeats 4000000 in
/-- The first tile, handed the four arrays, its scratch and its semaphores at zero, fetches the words and the addends, forms
the places chunk by chunk, gathers, adds chunk by chunk, scatters, and hands everything back with the flat array bumped. -/
theorem task_works (hF : (K (F := F)).Facts) (hL : (L 0).val = 0 ∧ (L 1).val = 0)
    (bt : Buf (Elt F) (argBt d)) (x : Buf (Elt F) (rowWords d)) (y : Buf (Elt F) (argY d)) (B : Buf (Elt F) (flat d)) (hg : Good x y)
    (O : CellTallies nD τ sig (HIx 1)) (W : Waits sig (HIx 1)) (hO : ∀ g, O g none = 0) :
    iprop(levAts (K (F := F)).L (K (F := F)).lev
        ∗ arrays d bt x y B
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (body (F := F) L)
          fun _ => iprop(arrays d bt x y (bumped (F := F) bt x y B)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h : isFirst L = 1#1 := (isFirst_iff L).mpr hL
  unfold body
  simp only [cc0__scatter_body_eq_skeleton]; unfold cc0__scatter_body_skel
  unfold isFirst at h
  simp only [h, dite_true, k0_part1_eq_skeleton, k0_part2_eq_skeleton]
  unfold k0_part1_skel k0_part2_skel
  rw [(K (F := F)).scopedBufs_V hF d (cV L) (jV L), SparseCore.Cfg.scopedSems0_V (Val := Elt F) d (cV L) (jV L), ownSems0_split, ownBufs_split]
  iintro ⟨#Hlv, ⟨Hbt, Hx, Hy, Hf⟩, ⟨⟨⟨%f0, H0⟩, ⟨%f1, H1⟩, ⟨%f2, H2⟩, ⟨%f3, H3⟩, ⟨%f4, H4⟩⟩, Hbufs⟩, ⟨⟨Hsem, HsemA, HsemB, HsemC⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hbt' := (Entails.of_eq (show (argBt d ↦{fullShare} bt : sProp 𝕄) = (btM.view.loc (V d (cV L) (jV L)) ↦{fullShare} bt) from rfl)) $$ Hbt
  ihave Hx' := (Entails.of_eq (show (rowWords d ↦{fullShare} x : sProp 𝕄) = (xM.view.loc (V d (cV L) (jV L)) ↦{fullShare} x) from rfl)) $$ Hx
  ihave Hy' := (Entails.of_eq (show (argY d ↦{fullShare} y : sProp 𝕄) = (yM.view.loc (V d (cV L) (jV L)) ↦{fullShare} y) from rfl)) $$ Hy
  ihave Hf' := (Entails.of_eq (show (flat d ↦{fullShare} B : sProp 𝕄) = (flatM.view.loc (V d (cV L) (jV L)) ↦{fullShare} B) from rfl)) $$ Hf
  ihave H0' := (Entails.of_eq (show ((V d (cV L) (jV L)).loc cc0_scratch0 ↦{fullShare} f0 : sProp 𝕄) = (xS.view.loc (V d (cV L) (jV L)) ↦{fullShare} f0) from rfl)) $$ H0
  ihave H1' := (Entails.of_eq (show ((V d (cV L) (jV L)).loc cc0_scratch1 ↦{fullShare} f1 : sProp 𝕄) = (yS.view.loc (V d (cV L) (jV L)) ↦{fullShare} f1) from rfl)) $$ H1
  ihave H2' := (Entails.of_eq (show ((V d (cV L) (jV L)).loc cc0_scratch2 ↦{fullShare} f2 : sProp 𝕄) = (placeS.view.loc (V d (cV L) (jV L)) ↦{fullShare} f2) from rfl)) $$ H2
  ihave H3' := (Entails.of_eq (show ((V d (cV L) (jV L)).loc cc0_scratch3 ↦{fullShare} f3 : sProp 𝕄) = (valS.view.loc (V d (cV L) (jV L)) ↦{fullShare} f3) from rfl)) $$ H3
  ihave H4' := (Entails.of_eq (show ((V d (cV L) (jV L)).loc cc0_scratch4 ↦{fullShare} f4 : sProp 𝕄) = (btS.view.loc (V d (cV L) (jV L)) ↦{fullShare} f4) from rfl)) $$ H4
  sl_exec
  have e : placeS.view.writes (Elt F) placeS.view.junk (task_works.sl.H2'_4 d L x y f0 f1) = place x y := by
    unfold task_works.sl.H2'_4
    funext k
    refine four_chunks (F := F) placeS.view (place x y) _ _ _ _ _ _ _ _ _ _ (fun j => ?_) (fun j => ?_) (fun j => ?_) (fun j => ?_) k
    · rw [pay_place1]; exact congrArg₂ (fun a b => a * 1024#32 + b) (load_fetched (F := F) xS.view _ _ _ _ j) (load_fetched (F := F) yS.view _ _ _ _ j)
    · rw [pay_place2]; exact congrArg₂ (fun a b => a * 1024#32 + b) (load_fetched (F := F) xS.view _ _ _ _ j) (load_fetched (F := F) yS.view _ _ _ _ j)
    · rw [pay_place3]; exact congrArg₂ (fun a b => a * 1024#32 + b) (load_fetched (F := F) xS.view _ _ _ _ j) (load_fetched (F := F) yS.view _ _ _ _ j)
    · rw [pay_place4]; exact congrArg₂ (fun a b => a * 1024#32 + b) (load_fetched (F := F) xS.view _ _ _ _ j) (load_fetched (F := F) yS.view _ _ _ _ j)
  ihave H2 := (Entails.of_eq (show (placeS.view.loc (V d (cV L) (jV L)) ↦{fullShare} placeS.view.writes (Elt F) placeS.view.junk (task_works.sl.H2'_4 d L x y f0 f1) : sProp 𝕄)
    = (placeS.view.loc (V d (cV L) (jV L)) ↦{fullShare} place x y) by rw [e])) $$ H2'
  have hin : ∀ k, (placeS.view.read (Elt F) (place x y) k).toNat < S4194304.size gathers_S4194304_S64.axis := hg.lt
  have hinj : Function.Injective fun k => (placeS.view.read (Elt F) (place x y) k).toNat := hg.inj
  sl_exec
  have ef : task_works.sl.Hf'_sc1 d L bt x y B f4 hin = bumped bt x y B := by
    refine scattered hg d (cV L) (jV L) bt B _ (fun k => ?_) _ _
    have hold (k) : task_works.sl.gather0 d x y B hin k = B (flatAt _ (hg.lt k)) := gathered hg B _ _ k
    refine four_chunks (F := F) valS.view (fun k => FloatOps.addf (B (flatAt _ (hg.lt k))) (bt k)) _ [⟨Rect.whole S64, task_works.sl.gather0 d x y B hin⟩]
      _ _ _ _ _ _ _ _ (fun j => ?_) (fun j => ?_) (fun j => ?_) (fun j => ?_) k
    · rw [pay_sum1]
      exact congrArg₂ FloatOps.addf ((after_whole (F := F) valS.view _ _ _ _).trans (hold _)) (load_fetched (F := F) btS.view _ _ _ _ j)
    · rw [pay_sum2]
      exact congrArg₂ FloatOps.addf
        ((skip_chunk (F := F) valS.view _ _ 16 0 _ _ _ (by decide) j).trans ((after_whole (F := F) valS.view _ _ _ _).trans (hold _)))
        (load_fetched (F := F) btS.view _ _ _ _ j)
    · rw [pay_sum3]
      exact congrArg₂ FloatOps.addf
        ((skip_chunk (F := F) valS.view _ _ 32 16 _ _ _ (by decide) j).trans ((skip_chunk (F := F) valS.view _ _ 32 0 _ _ _ (by decide) j).trans
          ((after_whole (F := F) valS.view _ _ _ _).trans (hold _))))
        (load_fetched (F := F) btS.view _ _ _ _ j)
    · rw [pay_sum4]
      exact congrArg₂ FloatOps.addf
        ((skip_chunk (F := F) valS.view _ _ 48 32 _ _ _ (by decide) j).trans ((skip_chunk (F := F) valS.view _ _ 48 16 _ _ _ (by decide) j).trans
          ((skip_chunk (F := F) valS.view _ _ 48 0 _ _ _ (by decide) j).trans ((after_whole (F := F) valS.view _ _ _ _).trans (hold _)))))
        (load_fetched (F := F) btS.view _ _ _ _ j)
  sl_step
  isplitl [Hbt' Hx' Hy' Hf']
  · isplitl [Hbt']; · iexact Hbt'
    isplitl [Hx']; · iexact Hx'
    isplitl [Hy']; · iexact Hy'
    iapply (Entails.of_eq (show (flatM.view.loc (V d (cV L) (jV L)) ↦{fullShare} task_works.sl.Hf'_sc1 d L bt x y B f4 hin : sProp 𝕄)
      = (flat d ↦{fullShare} bumped (F := F) bt x y B) by rw [ef])); iexact Hf'
  isplitl [H0' H1' H2 H3' H4' Hbufs]
  · isplitr [Hbufs]
    · isplitl [H0']; · iexists _; iexact H0'
      isplitl [H1']; · iexists _; iexact H1'
      isplitl [H2]; · iexists _; iexact H2
      isplitl [H3']; · iexists _; iexact H3'
      iexists _; iexact H4'
    · iexact Hbufs
  isplitl [HsemA HsemB HsemC Hsem Hsems]
  · isplitr [Hsems]
    · isplitl [Hsem]; · iexact Hsem
      isplitl [HsemA]; · iexact HsemA
      isplitl [HsemB]; · iexact HsemB
      iexact HsemC
    · iexact Hsems
  iexists _; isplitr
  swap; · iexact HO
  ipureintro; intro p hp
  simp only [Finset.mem_insert] at hp
  rcases hp with rfl | rfl | rfl | rfl | rfl | hp
  all_goals first | exact .inr rfl | exact .inl hp

end Cert.Bump

end
-- ==== Proof.Launch.lean ====
/-
  The launch of the call: the four arrays go to tile 0 of SparseCore 0, which runs the kernel on them and brings them
  back, the flat array bumped; every other tile and the other SparseCore are handed nothing and return at once.
-/
module

public import proofs.«01_k».proof.Proof.Task

@[expose] public section

noncomputable section

namespace Cert.Bump

open Cert.KernelIdeal Cert.KernelIdeal.Gen Cert.Places
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the call is given on device `d`: the addends, the row and column words, the flat array. -/
structure Given (F : FTy → Type) (d : Dev nD) where
  bt : Buf (Elt F) (argBt d)
  x : Buf (Elt F) (rowWords d)
  y : Buf (Elt F) (argY d)
  B : Buf (Elt F) (flat d)
  good : Good x y

namespace Given

variable {d : Dev nD} (G : Given F d)

/-- The four arrays as they go out. -/
abbrev before : sProp 𝕄 := arrays d G.bt G.x G.y G.B
/-- The four arrays as they come back. -/
abbrev after : sProp 𝕄 := arrays d G.bt G.x G.y (bumped (F := F) G.bt G.x G.y G.B)

end Given

/-- `A` for the chosen one, nothing for the others. -/
def onlyFor (p : Prop) [Decidable p] (A : sProp 𝕄) : sProp 𝕄 := if p then A else iprop(emp)

/-- The chosen one has `A`. -/
theorem onlyFor_yes {p : Prop} [Decidable p] (h : p) (A : sProp 𝕄) : onlyFor p A = A := if_pos h
/-- Any other has nothing. -/
theorem onlyFor_no {p : Prop} [Decidable p] (h : ¬p) (A : sProp 𝕄) : onlyFor p A = iprop(emp) := if_neg h

/-- Either way it may be stored if `A` may. -/
instance onlyFor_storable (p : Prop) [Decidable p] (A : sProp 𝕄) [BI.Storable (upEmb : UEmb _ 𝕄) A] :
    BI.Storable (upEmb : UEmb _ 𝕄) (onlyFor p A) := by
  unfold onlyFor; split <;> infer_instance

/-- Nothing, once for each. -/
theorem nothing_each {I : Type} (s : Finset I) : (bigSep s fun _ => iprop(emp)) = (iprop(emp) : sProp 𝕄) := bigSep_emp_const s

variable (G : (d : Dev nD) → Given F d)

/-- The call's payloads: the arrays for SparseCore 0 and its tile 0. -/
def P : (K (F := F)).Pay (nD := nD) (Val := Elt F) (Name := ℕ) (U := UU) where
  st := fun _ d c => onlyFor (c.val = 0) (G d).before
  dn := fun _ d c => onlyFor (c.val = 0) (G d).after
  go := fun _ d c i => onlyFor (c.val = 0 ∧ i.val = 0) (G d).before
  td := fun _ d c i => onlyFor (c.val = 0 ∧ i.val = 0) (G d).after
  x := fun _ _ => iprop(emp)

instance P_storable : (P (F := F) G).IsStorable where
  st _ d c := by unfold P; infer_instance
  dn _ d c := by unfold P; infer_instance
  go _ _ _ _ := by unfold P; infer_instance
  td _ _ _ _ := by unfold P; infer_instance

/-! ## The task of a tile -/

/-- A tile's grid position from its two numbers. -/
def position (c : Fin (grid0.bound 0)) (s : Fin (grid0.bound 1)) : grid0.Coords :=
  fun | 0 => c | 1 => s | ⟨_ + 2, h⟩ => absurd h (Nat.not_lt.2 (Nat.le_add_left _ _))

/-- The kernel that the launch runs on a tile is the body at its grid position. -/
theorem defs₀_vector (c : Fin τ.nSC) (s : Fin τ.nSub) :
    defs₀ (F := F) (.scVector c s) 0 () = SparseCore.onTile hcore0 hsub0 (fun c s => body (F := F) (position c s)) ⟨⟩ c s := rfl

/-- Every tile's task, from what it is handed to what it hands back. -/
theorem task_any (hF : (K (F := F)).Facts) (d : Dev nD) (L : grid0.Coords) (O : CellTallies nD τ sig (HIx 1)) (W : Waits sig (HIx 1))
    (hO : ∀ g, O g none = 0) (q : Fin 1) :
    iprop(levAts (K (F := F)).L (K (F := F)).lev ∗ emp ∗ onlyFor ((L 0).val = 0 ∧ (L 1).val = 0) (G d).before
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (body (F := F) L)
          fun _ => iprop(onlyFor ((L 0).val = 0 ∧ (L 1).val = 0) (G d).after
            ∗ scopedBufs (V d (cV L) (jV L)) ∗ scopedSems0 (V d (cV L) (jV L))
            ∗ ∃ W', ⌜∀ p ∈ W', p ∈ W ∨ p.2 = none ∨ p.2 = some q⌝ ∗ owes (V d (cV L) (jV L)) O W') := by
  by_cases hL : (L 0).val = 0 ∧ (L 1).val = 0
  · rw [onlyFor_yes hL, onlyFor_yes hL]
    iintro ⟨#Hlv, -, HA, Hb, Hs, HO⟩
    iapply (wp_mono frame (wpE (defs₀ (F := F)) 𝒱₀ (V d (cV L) (jV L)) none) _ (fun _ => ?w))
    case w =>
      show iprop((G d).after ∗ scopedBufs (V d (cV L) (jV L)) ∗ scopedSems0 (V d (cV L) (jV L))
          ∗ ∃ W', ⌜∀ p ∈ W', p ∈ W ∨ p.2 = none⌝ ∗ owes (V d (cV L) (jV L)) O W') ⊢ _
      iintro ⟨HA, Hb, Hs, %W', %hW, HO⟩
      isplitl [HA]; · iexact HA
      isplitl [Hb]; · iexact Hb
      isplitl [Hs]; · iexact Hs
      iexists W'; isplitr
      · ipureintro; exact fun p hp => (hW p hp).imp_right Or.inl
      · iexact HO
    iapply (task_works d L hF hL (G d).bt (G d).x (G d).y (G d).B (G d).good O W hO)
    isplitr; · iexact Hlv
    isplitl [HA]; · iexact HA
    isplitl [Hb]; · iexact Hb
    isplitl [Hs]; · iexact Hs
    iexact HO
  · rw [onlyFor_no hL, onlyFor_no hL]
    refine BIBase.Entails.trans ?_ (task_idle d L hL _)
    iintro ⟨-, -, -, Hb, Hs, HO⟩
    isplitr; · iempintro
    isplitl [Hb]; · iexact Hb
    isplitl [Hs]; · iexact Hs
    iexists W; isplitr
    · ipureintro; exact fun p hp => Or.inl hp
    · iexact HO

set_option maxRecDepth 16384 in
/-- The call's body on every tile, as the launch asks for it. -/
theorem tileObl (hF : (K (F := F)).Facts) : (K (F := F)).TileObl (D (F := F)) 𝒱 (P G) v₀ 0 := by
  intro d c i O W hO _ _
  simp only [show (P G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_any G hF d (position ⟨_, hci.1⟩ ⟨_, hci.2⟩) O W hO 0

/-! ## What a SparseCore is handed goes to its tile 0 -/

/-- What only tile 0 gets, over all sixteen tiles. -/
theorem tiles_split (p : Prop) [Decidable p] (A : sProp 𝕄) :
    (bigSep (Finset.univ : Finset (Fin 16)) fun i => onlyFor (p ∧ i.val = 0) A) = onlyFor p A := by
  rw [SparseCore.bigSep_erase' (Finset.mem_univ (0 : Fin 16)),
    show (bigSep ((Finset.univ : Finset (Fin 16)).erase 0) fun i => onlyFor (p ∧ i.val = 0) A) = bigSep ((Finset.univ : Finset (Fin 16)).erase 0) fun _ => iprop(emp) from
      bigSep_congr fun i hi => onlyFor_no (fun h => (Finset.mem_erase.mp hi).1 (Fin.ext h.2)) A, nothing_each]
  have e : onlyFor (p ∧ (0 : Fin 16).val = 0) A = onlyFor p A := by
    unfold onlyFor; simp only [Fin.val_zero, and_true]
  rw [e]
  have there : iprop(onlyFor p A ∗ emp) ⊢ onlyFor p A := by iintro ⟨H, -⟩; iexact H
  have back : onlyFor p A ⊢ iprop(onlyFor p A ∗ emp) := by
    iintro H
    isplitl [H]; · iexact H
    iempintro
  exact BI.Entails.antisymm there back

/-- The sequencer hands its SparseCore's part to the tiles and takes it back. -/
theorem vecSplit : (K (F := F)).VecSplit' (P G) 0 := by
  intro d c
  show onlyFor (c.val = 0) (G d).before ⊢ |={Set.univ}=> iprop(
      (bigSep (Finset.univ : Finset (Fin 16)) fun i => onlyFor (c.val = 0 ∧ i.val = 0) (G d).before)
      ∗ ((bigSep (Finset.univ : Finset (Fin 16)) fun i => onlyFor (c.val = 0 ∧ i.val = 0) (G d).after) -∗ onlyFor (c.val = 0) (G d).after))
  rw [tiles_split, tiles_split]
  iintro H; imodintro
  isplitl [H]; · iexact H
  iintro H; iexact H

/-- The two SparseCores together are handed what SparseCore 0 is. -/
theorem cores_split (A : sProp 𝕄) : (bigSep (Finset.univ : Finset (Fin 2)) fun c => onlyFor (c.val = 0) A) = iprop(A ∗ emp) := by
  rw [show (Finset.univ : Finset (Fin 2)) = {0, 1} by decide, SparseCore.bigSep_insert' (by decide), bigSep_singleton,
    onlyFor_yes (by decide), onlyFor_no (by decide)]

/-- What @main hands over for the call. -/
theorem st0_eq (d : Dev nD) : (bigSep Finset.univ fun c : Fin ((K (F := F)).nCore 0) => (P G).st 0 d c) = iprop((G d).before ∗ emp) :=
  cores_split _
/-- What @main gets back. -/
theorem dn0_eq (d : Dev nD) : (bigSep Finset.univ fun c : Fin ((K (F := F)).nCore 0) => (P G).dn 0 d c) = iprop((G d).after ∗ emp) :=
  cores_split _

/-! ## The launch element of the ghost state -/

/-- The ghost state at launch: the handshakes' cells and tokens, no counter. -/
def u₀ : UU := (initOf (K (F := F)).hsCells (K (F := F)).hsToks, 1)

/-- The launch hands the handshakes their start, and nothing else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P G).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_each]; iempintro
  rw [show (bigSep Finset.univ fun thr : Thread nD τ => bigSep Finset.univ fun q : Fin 1 => (P (F := F) G).x q thr) = bigSep Finset.univ fun _ => iprop(emp) from
    bigSep_congr fun _ _ => bigSep_univ_of_subsingleton (0 : Fin 1), nothing_each]
  iempintro

end Cert.Bump

end
-- ==== Proof.Main.lean ====
/-
  The whole program: the array is laid out flat, the call bumps it, and it is put back into its shape. For launch memory
  whose index words are good, every run ends with the four arguments unchanged and the result array at `bumpedArray`.
-/
module

public import proofs.«01_k».proof.Proof.Launch

@[expose] public section

noncomputable section

namespace Cert.Bump

open Cert.KernelIdeal Cert.KernelIdeal.Gen Cert.Places
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-! ## The arrays' values -/

/-- The array laid out flat. -/
abbrev flattened (B : S4x1024x1024.Idx → F .f32) : S4194304.Idx → F .f32 := shapeCast S4194304 B shapeCasts_S4x1024x1024_S4194304

/-- What the program returns: the flat array bumped, back in the argument's shape. -/
def bumpedArray (B : S4x1024x1024.Idx → F .f32) (bt : S64.Idx → F .f32) (x y : S64.Idx → BitVec 32) : S4x1024x1024.Idx → F .f32 :=
  shapeCast S4x1024x1024 (bumped bt x y (flattened B)) shapeCasts_S4194304_S4x1024x1024

variable (m : (ℓ : Loc nD τ sig) → Buf (Elt F) ℓ) (ρ : Dev nD → PrngReg)

/-- The launch memory's index words name pairwise different places of the flat array. -/
def GoodWords : Prop := ∀ d : Dev nD, Good (m (argX d)) (m (argY d))

/-- What the call is given on device `d`. -/
def given (hw : GoodWords m) (d : Dev nD) : Given F d where
  bt := m (argBt d)
  x := m (argX d)
  y := m (argY d)
  B := flattened (m (argB d))
  good := hw d

/-- What the program returns on device `d`. -/
abbrev returned (d : Dev nD) : Buf (Elt F) (result d) := bumpedArray (m (argB d)) (m (argBt d)) (m (argX d)) (m (argY d))

/-! ## The operations before and after the call -/

/-- The arrays of @main: the argument array. -/
abbrev rB : DevRef τ sig := Proc.devRef .tc (main_arg0 : Ref sig .tc)
/-- The addends. -/
abbrev rBt : DevRef τ sig := Proc.devRef .tc (main_arg1 : Ref sig .tc)
/-- The row words. -/
abbrev rX : DevRef τ sig := Proc.devRef .tc (main_arg2 : Ref sig .tc)
/-- The column words. -/
abbrev rY : DevRef τ sig := Proc.devRef .tc (main_arg3 : Ref sig .tc)
/-- The argument laid out flat. -/
abbrev rFlatB : DevRef τ sig := Proc.devRef .tc (main_v0 : Ref sig .tc)
/-- The constant zero. -/
abbrev rZero : DevRef τ sig := Proc.devRef .tc (main_c : Ref sig .tc)
/-- Sixty-four zeros. -/
abbrev rZeros : DevRef τ sig := Proc.devRef .tc (main_v1 : Ref sig .tc)
/-- The row words as the call receives them. -/
abbrev rRows : DevRef τ sig := Proc.devRef .tc (main_v2 : Ref sig .tc)
/-- The flat array as the call receives it. -/
abbrev rFlat : DevRef τ sig := Proc.devRef .tc (main_v3 : Ref sig .tc)
/-- The result. -/
abbrev rOut : DevRef τ sig := Proc.devRef .tc (main_v4 : Ref sig .tc)

/-- The operations of @main in order: the array laid out flat. -/
abbrev opFlatten : HloOp τ sig (Elt F) := StableHlo.reshape main_arg0 main_v0 (rfl : (.f32 : EltTy) = .f32) shapeCasts_S4x1024x1024_S4194304
/-- The constant zero. -/
abbrev opZero : HloOp τ sig (Elt F) := StableHlo.nullary main_c (constantI S_ 32 0#32)
/-- It spread over sixty-four. -/
abbrev opZeros : HloOp τ sig (Elt F) :=
  StableHlo.unary main_c main_v1 (broadcastInDim S64 ![] bcast_S_S64 : (⟨S_, .i32⟩ : BufTy).Contents (Elt F) → (⟨S64, .i32⟩ : BufTy).Contents (Elt F))
/-- The row words plus it. -/
abbrev opRows : HloOp τ sig (Elt F) :=
  StableHlo.binary main_arg2 main_v1 main_v2 (addi : (⟨S64, .i32⟩ : BufTy).Contents (Elt F) → (⟨S64, .i32⟩ : BufTy).Contents (Elt F) → (⟨S64, .i32⟩ : BufTy).Contents (Elt F))
/-- The flat array copied for the call to change. -/
abbrev opCopy : HloOp τ sig (Elt F) := StableHlo.unary main_v0 main_v3 id
/-- After the call: the flat array back in the argument's shape. -/
abbrev opBack : HloOp τ sig (Elt F) := StableHlo.reshape main_v3 main_v4 (rfl : (.f32 : EltTy) = .f32) shapeCasts_S4194304_S4x1024x1024

/-- The four arrays that the call is given. -/
abbrev callRefs : Finset (DevRef τ sig) := {rBt, rRows, rY, rFlat}
/-- The arrays that the call is not given. -/
abbrev restRefs : Finset (DevRef τ sig) := {rB, rX, rFlatB, rZero, rZeros, rOut}
/-- All of them. -/
abbrev allRefs : Finset (DevRef τ sig) := {rBt, rRows, rY, rFlat, rB, rX, rFlatB, rZero, rZeros, rOut}

section Values

variable (d : Dev nD)

/-- The arrays at launch. -/
def W0 : Valuation τ sig (Elt F) := fun b => m (d, b)
/-- After the first operation. -/
def W1 : Valuation τ sig (Elt F) := (opFlatten (F := F)).result (W0 m d)
/-- After the second. -/
def W2 : Valuation τ sig (Elt F) := (opZero (F := F)).result (W1 m d)
/-- After the third. -/
def W3 : Valuation τ sig (Elt F) := (opZeros (F := F)).result (W2 m d)
/-- After the fourth. -/
def W4 : Valuation τ sig (Elt F) := (opRows (F := F)).result (W3 m d)
/-- After the fifth: as the call finds them. -/
def W5 : Valuation τ sig (Elt F) := (opCopy (F := F)).result (W4 m d)
/-- After the call: the flat array bumped. -/
def W6 : Valuation τ sig (Elt F) := Function.update (W5 m d) rFlat (bumped (F := F) (m (argBt d)) (m (argX d)) (m (argY d)) (flattened (m (argB d))))
/-- At the end. -/
def W7 : Valuation τ sig (Elt F) := (opBack (F := F)).result (W6 m d)

/-- An array that none of the five operations writes holds its launch contents before the call. -/
theorem W5_kept {b : DevRef τ sig} (h : b ∉ ({rFlatB, rZero, rZeros, rRows, rFlat} : Finset (DevRef τ sig))) : W5 m d b = m (d, b) := by
  simp only [Finset.mem_insert, Finset.mem_singleton, not_or] at h
  obtain ⟨h0, h1, h2, h3, h4⟩ := h
  have e5 : W5 m d b = W4 m d b := (opCopy (F := F)).result_of_not_mem _ (show b ∉ ({rFlat} : Finset (DevRef τ sig)) from fun h => h4 (Finset.mem_singleton.mp h))
  have e4 : W4 m d b = W3 m d b := (opRows (F := F)).result_of_not_mem _ (show b ∉ ({rRows} : Finset (DevRef τ sig)) from fun h => h3 (Finset.mem_singleton.mp h))
  have e3 : W3 m d b = W2 m d b := (opZeros (F := F)).result_of_not_mem _ (show b ∉ ({rZeros} : Finset (DevRef τ sig)) from fun h => h2 (Finset.mem_singleton.mp h))
  have e2 : W2 m d b = W1 m d b := (opZero (F := F)).result_of_not_mem _ (show b ∉ ({rZero} : Finset (DevRef τ sig)) from fun h => h1 (Finset.mem_singleton.mp h))
  have e1 : W1 m d b = W0 m d b := (opFlatten (F := F)).result_of_not_mem _ (show b ∉ ({rFlatB} : Finset (DevRef τ sig)) from fun h => h0 (Finset.mem_singleton.mp h))
  exact e5.trans (e4.trans (e3.trans (e2.trans e1)))

/-- The row words that the call receives are the argument's: zero is added to each. -/
theorem W5_rows : W5 m d rRows = m (argX d) := by
  have e5 : W5 m d rRows = W4 m d rRows := (opCopy (F := F)).result_of_not_mem _ (show rRows ∉ ({rFlat} : Finset (DevRef τ sig)) by decide)
  have e4 : W4 m d rRows = addi (W3 m d rX) (W3 m d rZeros) := StableHlo.binary_result _ _ _ _ _ _ _ _
  have e3 : W3 m d rZeros = broadcastInDim S64 ![] bcast_S_S64 (W2 m d rZero) := StableHlo.unary_result _ _ _ _ _ _
  have e2 : W2 m d rZero = constantI S_ 32 0#32 := StableHlo.nullary_result _ _ _ _
  have f3 : W3 m d rX = W2 m d rX := (opZeros (F := F)).result_of_not_mem _ (show rX ∉ ({rZeros} : Finset (DevRef τ sig)) by decide)
  have f2 : W2 m d rX = W1 m d rX := (opZero (F := F)).result_of_not_mem _ (show rX ∉ ({rZero} : Finset (DevRef τ sig)) by decide)
  have f1 : W1 m d rX = W0 m d rX := (opFlatten (F := F)).result_of_not_mem _ (show rX ∉ ({rFlatB} : Finset (DevRef τ sig)) by decide)
  rw [e5, e4, e3, e2, f3, f2, f1]
  funext k
  exact BitVec.add_zero (n := 32) (m (argX d) k)

/-- The flat array that the call receives is the argument laid out flat. -/
theorem W5_flat : W5 m d rFlat = flattened (m (argB d)) := by
  have e5 : W5 m d rFlat = W4 m d rFlatB := StableHlo.unary_result _ _ _ _ _ _
  have e4 : W4 m d rFlatB = W3 m d rFlatB := (opRows (F := F)).result_of_not_mem _ (show rFlatB ∉ ({rRows} : Finset (DevRef τ sig)) by decide)
  have e3 : W3 m d rFlatB = W2 m d rFlatB := (opZeros (F := F)).result_of_not_mem _ (show rFlatB ∉ ({rZeros} : Finset (DevRef τ sig)) by decide)
  have e2 : W2 m d rFlatB = W1 m d rFlatB := (opZero (F := F)).result_of_not_mem _ (show rFlatB ∉ ({rZero} : Finset (DevRef τ sig)) by decide)
  have e1 : W1 m d rFlatB = flattened (m (argB d)) := StableHlo.reshape_result _ _ _ _ _ _ _
  exact e5.trans (e4.trans (e3.trans (e2.trans e1)))

/-- The call leaves the flat array bumped. -/
theorem W6_flat : W6 m d rFlat = bumped (F := F) (m (argBt d)) (m (argX d)) (m (argY d)) (flattened (m (argB d))) := Function.update_self _ _ _
/-- The call leaves every other array alone. -/
theorem W6_of_ne {b : DevRef τ sig} (h : b ≠ rFlat) : W6 m d b = W5 m d b := Function.update_of_ne h _ _

/-- The result array at the end. -/
theorem W7_out : W7 m d rOut = returned m d := by
  have e : W7 m d rOut = shapeCast S4x1024x1024 (W6 m d rFlat) shapeCasts_S4194304_S4x1024x1024 := StableHlo.reshape_result _ _ _ _ _ _ _
  rw [e, W6_flat]; rfl

/-- An argument at the end. -/
theorem W7_kept {b : DevRef τ sig} (h : b ∉ ({rFlatB, rZero, rZeros, rRows, rFlat, rOut} : Finset (DevRef τ sig))) : W7 m d b = m (d, b) := by
  have h' := h
  simp only [Finset.mem_insert, Finset.mem_singleton, not_or] at h'
  obtain ⟨h0, h1, h2, h3, h4, h5⟩ := h'
  have e7 : W7 m d b = W6 m d b := (opBack (F := F)).result_of_not_mem _ (show b ∉ ({rOut} : Finset (DevRef τ sig)) from fun h => h5 (Finset.mem_singleton.mp h))
  rw [e7, W6_of_ne m d h4, W5_kept]
  simp only [Finset.mem_insert, Finset.mem_singleton, not_or]
  exact ⟨h0, h1, h2, h3, h4⟩

end Values

/-! ## The arrays held -/

/-- The arrays of @main held at a valuation: the call's four, and the rest. -/
theorem held_call (d : Dev nD) (W : Valuation τ sig (Elt F)) :
    (held (T d) allRefs W : sProp 𝕄) = iprop(arrays d (W rBt) (W rRows) (W rY) (W rFlat) ∗ held (T d) restRefs W) := by
  unfold held
  rw [show allRefs = insert rBt (insert rRows (insert rY (insert rFlat restRefs))) from rfl,
    SparseCore.bigSep_insert' (by decide), SparseCore.bigSep_insert' (by decide), SparseCore.bigSep_insert' (by decide), SparseCore.bigSep_insert' (by decide)]
  have there : iprop(((d, rBt) ↦{fullShare} W rBt) ∗ ((d, rRows) ↦{fullShare} W rRows) ∗ ((d, rY) ↦{fullShare} W rY) ∗ ((d, rFlat) ↦{fullShare} W rFlat)
        ∗ held (T d) restRefs W)
      ⊢ (iprop(arrays d (W rBt) (W rRows) (W rY) (W rFlat) ∗ held (T d) restRefs W) : sProp 𝕄) := by
    iintro ⟨H1, H2, H3, H4, H5⟩
    isplitr [H5]
    · isplitl [H1]; · iexact H1
      isplitl [H2]; · iexact H2
      isplitl [H3]; · iexact H3
      iexact H4
    · iexact H5
  have back : (iprop(arrays d (W rBt) (W rRows) (W rY) (W rFlat) ∗ held (T d) restRefs W) : sProp 𝕄)
      ⊢ iprop(((d, rBt) ↦{fullShare} W rBt) ∗ ((d, rRows) ↦{fullShare} W rRows) ∗ ((d, rY) ↦{fullShare} W rY) ∗ ((d, rFlat) ↦{fullShare} W rFlat)
        ∗ held (T d) restRefs W) := by
    iintro ⟨⟨H1, H2, H3, H4⟩, H5⟩
    isplitl [H1]; · iexact H1
    isplitl [H2]; · iexact H2
    isplitl [H3]; · iexact H3
    isplitl [H4]; · iexact H4
    iexact H5
  exact BI.Entails.antisymm there back

/-- What @main leaves for the claims: the four arguments at their launch contents, and the result. -/
abbrev FIN (d : Dev nD) : sProp 𝕄 :=
  iprop((argB d ↦{fullShare} m (argB d)) ∗ (argBt d ↦{fullShare} m (argBt d)) ∗ (argX d ↦{fullShare} m (argX d)) ∗ (argY d ↦{fullShare} m (argY d))
    ∗ result d ↦{fullShare} returned m d)

/-- The arrays held at the end give that. -/
theorem held_end (d : Dev nD) : (held (T d) allRefs (W7 m d) : sProp 𝕄) ⊢ FIN m d := by
  unfold held
  rw [show allRefs = insert rB (insert rBt (insert rX (insert rY (insert rOut {rRows, rFlat, rFlatB, rZero, rZeros})))) by decide,
    SparseCore.bigSep_insert' (by decide), SparseCore.bigSep_insert' (by decide), SparseCore.bigSep_insert' (by decide), SparseCore.bigSep_insert' (by decide),
    SparseCore.bigSep_insert' (by decide), W7_out, W7_kept m d (b := rB) (by decide), W7_kept m d (b := rBt) (by decide), W7_kept m d (b := rX) (by decide),
    W7_kept m d (b := rY) (by decide)]
  iintro ⟨H1, H2, H3, H4, H5, -⟩
  isplitl [H1]; · iexact H1
  isplitl [H2]; · iexact H2
  isplitl [H3]; · iexact H3
  isplitl [H4]; · iexact H4
  iexact H5

/-- The launch hands @main all its arrays. -/
theorem unscoped_held (d : Dev nD) : (unscopedBufs d (fun b => m ((SparseCore.T d).loc b)) : sProp 𝕄) = held (T d) allRefs (W0 m d) := by
  unfold unscopedBufs held
  rw [show (Finset.univ.filter fun b : Ref sig .tc => ¬ b.isScoped)
      = {main_arg1, main_v2, main_arg3, main_v3, main_arg0, main_arg2, main_v0, main_c, main_v1, main_v4} by decide]
  unfold allRefs
  repeat rw [SparseCore.bigSep_insert' (by decide)]
  repeat rw [bigSep_singleton]
  rfl

/-! ## @main on the TensorCore -/

/-- Each operation uses arrays of @main only. -/
theorem uses_flatten : (opFlatten (F := F)).bufs ⊆ allRefs := show ({rB, rFlatB} : Finset (DevRef τ sig)) ⊆ allRefs by decide
/-- Likewise. -/
theorem uses_zero : (opZero (F := F)).bufs ⊆ allRefs := show ({rZero} : Finset (DevRef τ sig)) ⊆ allRefs by decide
/-- Likewise. -/
theorem uses_zeros : (opZeros (F := F)).bufs ⊆ allRefs := show ({rZero, rZeros} : Finset (DevRef τ sig)) ⊆ allRefs by decide
/-- Likewise. -/
theorem uses_rows : (opRows (F := F)).bufs ⊆ allRefs := show ({rX, rZeros, rRows} : Finset (DevRef τ sig)) ⊆ allRefs by decide
/-- Likewise. -/
theorem uses_copy : (opCopy (F := F)).bufs ⊆ allRefs := show ({rFlatB, rFlat} : Finset (DevRef τ sig)) ⊆ allRefs by decide
/-- Likewise. -/
theorem uses_back : (opBack (F := F)).bufs ⊆ allRefs := show ({rFlat, rOut} : Finset (DevRef τ sig)) ⊆ allRefs by decide

variable (hw : GoodWords m)

/-- Before the call the arrays held are those that the call is given, and the rest. -/
theorem held_before (d : Dev nD) : (held (T d) allRefs (W5 m d) : sProp 𝕄) = iprop((given m hw d).before ∗ held (T d) restRefs (W5 m d)) := by
  rw [held_call, W5_flat, W5_rows, W5_kept m d (b := rBt) (by decide), W5_kept m d (b := rY) (by decide)]
  rfl

/-- After the call likewise, the flat array bumped. -/
theorem held_after (d : Dev nD) : (held (T d) allRefs (W6 m d) : sProp 𝕄) = iprop((given m hw d).after ∗ held (T d) restRefs (W5 m d)) := by
  rw [held_call, W6_flat, W6_of_ne m d (b := rRows) (by decide), W6_of_ne m d (b := rBt) (by decide), W6_of_ne m d (b := rY) (by decide),
    W5_rows, W5_kept m d (b := rBt) (by decide), W5_kept m d (b := rY) (by decide)]
  have e : (held (T d) restRefs (W6 m d) : sProp 𝕄) = held (T d) restRefs (W5 m d) := by
    unfold held
    refine bigSep_congr fun b hb => ?_
    rw [W6_of_ne m d (fun h => absurd (h ▸ hb) (by decide))]
  rw [e]
  rfl

/-- @main on device `d`'s TensorCore: the five operations, the call, the last reshape. -/
theorem hmain (κ : GSem nD τ sig → ℕ) (d : Dev nD) :
    iprop((K (F := F)).ctx EH (P (given m hw)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlatten) (S := allRefs) uses_flatten (V := W0 m d)) $$ [Hb Hheld]
  · isplitl [Hb] <;> iassumption
  iintro ⟨Hb, Hheld⟩
  rw [show (opFlatten (F := F)).result (W0 m d) = W1 m d from rfl]
  rw [wp_ret]; imodintro
  iapply (wp_hlo_within 𝒱 (SparseCore.T d) none Set.univ (op := opZero) (S := allRefs) uses_zero (V := W1 m d)) $$ [Hb Hheld]
  · isplitl [Hb] <;> iassumption
  iintro ⟨Hb, Hheld⟩
  rw [show (opZero (F := F)).result (W1 m d) = W2 m d from rfl]
  rw [wp_ret]; imodintro
  iapply (wp_hlo_within 𝒱 (SparseCore.T d) none Set.univ (op := opZeros) (S := allRefs) uses_zeros (V := W2 m d)) $$ [Hb Hheld]
  · isplitl [Hb] <;> iassumption
  iintro ⟨Hb, Hheld⟩
  rw [show (opZeros (F := F)).result (W2 m d) = W3 m d from rfl]
  rw [wp_ret]; imodintro
  iapply (wp_hlo_within 𝒱 (SparseCore.T d) none Set.univ (op := opRows) (S := allRefs) uses_rows (V := W3 m d)) $$ [Hb Hheld]
  · isplitl [Hb] <;> iassumption
  iintro ⟨Hb, Hheld⟩
  rw [show (opRows (F := F)).result (W3 m d) = W4 m d from rfl]
  rw [wp_ret]; imodintro
  iapply (wp_hlo_within 𝒱 (SparseCore.T d) none Set.univ (op := opCopy) (S := allRefs) uses_copy (V := W4 m d)) $$ [Hb Hheld]
  · isplitl [Hb] <;> iassumption
  iintro ⟨Hb, Hheld⟩
  rw [show (opCopy (F := F)).result (W4 m d) = W5 m d from rfl]
  rw [wp_ret]; imodintro
  ihave Hh := (Entails.of_eq (held_before m hw d)) $$ Hheld
  icases Hh with ⟨HA, Hrest⟩
  iapply ((K (F := F)).wp_run (D (F := F)) 𝒱 (EH := EH) (P := P (given m hw)) κ d 0) $$ [Hst HA Hrest Hb Hts]
  isplitr; · iexact Hctx
  isplitl [Hst]; · iexact Hst
  isplitl [HA]
  · rw [st0_eq]
    isplitl [HA]; · iexact HA
    iempintro
  iintro ⟨Hst, Hdn⟩
  ihave Hdn' := (Entails.of_eq (dn0_eq (given m hw) d)) $$ Hdn
  icases Hdn' with ⟨HA, -⟩
  iapply (wp_hlo_within 𝒱 (SparseCore.T d) none Set.univ (op := opBack) (S := allRefs) uses_back (V := W6 m d)) $$ [Hb HA Hrest]
  · isplitl [Hb]; · iexact Hb
    rw [held_after m hw]
    isplitl [HA]; · iexact HA
    iexact Hrest
  iintro ⟨Hb, Hheld⟩
  rw [show (opBack (F := F)).result (W6 m d) = W7 m d from rfl]
  ihave Hend := (held_end m d) $$ Hheld
  rw [wp_ret]; imodintro; imodintro
  isplitl [Hst]; · iexact Hst
  isplitl [Hend]; · iexact Hend
  isplitl [Hb] <;> iassumption

/-! ## The run -/

/-- What the claims read of device `d`'s final memory. -/
def fq (d : Dev nD) (s' : Phys nD τ sig (Elt F)) : Prop :=
  s'.mem.mem (argB d) = m (argB d) ∧ s'.mem.mem (argBt d) = m (argBt d) ∧ s'.mem.mem (argX d) = m (argX d) ∧ s'.mem.mem (argY d) = m (argY d)
    ∧ s'.mem.mem (result d) = returned m d

/-- An array held whole is what the memory holds. -/
theorem agree {ℓ : Loc nD τ sig} {f : Buf (Elt F) ℓ} {s' : Phys nD τ sig (Elt F)} :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

/-- What @main leaves tells the final memory. -/
theorem hfin (d : Dev nD) (s' : Phys nD τ sig (Elt F)) : iprop(FIN m d ∗ SI s') ⊢ (⌜fq m d s'⌝ : sProp 𝕄) := by
  iintro ⟨⟨H1, H2, H3, H4, H5⟩, HSI⟩
  ihave H := agree $$ [H1 HSI]
  · isplitl [H1] <;> iassumption
  icases H with ⟨%h1, HSI⟩
  ihave H := agree $$ [H2 HSI]
  · isplitl [H2] <;> iassumption
  icases H with ⟨%h2, HSI⟩
  ihave H := agree $$ [H3 HSI]
  · isplitl [H3] <;> iassumption
  icases H with ⟨%h3, HSI⟩
  ihave H := agree $$ [H4 HSI]
  · isplitl [H4] <;> iassumption
  icases H with ⟨%h4, HSI⟩
  ihave H := agree $$ [H5 HSI]
  · isplitl [H5] <;> iassumption
  icases H with ⟨%h5, -⟩
  ipureintro; exact ⟨h1, h2, h3, h4, h5⟩

/-- The arguments unchanged, the result as `returned` says, on every device; every semaphore at zero. -/
def QC : PUnit × MemSt nD τ sig (Elt F) → Prop := fun r =>
  (∀ c : Dev nD, r.2.mem (argB c) = m (argB c) ∧ r.2.mem (argBt c) = m (argBt c) ∧ r.2.mem (argX c) = m (argX c) ∧ r.2.mem (argY c) = m (argY c)
    ∧ r.2.mem (result c) = returned m c) ∧ r.2.sem = fun _ => 0

/-- From launch memory with good words, every run ends so. -/
theorem run_main (hw : GoodWords m) [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (given m hw)) (A := ∅) facts v₀
    (fun q hq => match q with | 0 => nomatch hq)
    (fun q _ => match q with | 0 => tileObl (given m hw) facts)
    (fun q _ => match q with | 0 => SparseCore.Cfg.VecSplit.of_plain (vecSplit (given m hw)))
    m ρ main (fun _ => iprop(emp)) (FIN m) (u₀ (F := F)) (sep_elim_left.trans (hu₀ (given m hw))) (hmain m ρ hw) (fq m) (hfin m) (QC m) (fun _ h hz => ⟨h, hz⟩)

end Cert.Bump

end
-- ==== Proof.Words.lean ====
/-
  What the precondition says of the two index arrays: every row word and every column word is below 1024, and no two
  entries name the same place (`InPlane`). From that the sixty-four places are good.
-/
module

public import proofs.«01_k».proof.Proof.Places
public import proofs.«01_k».proof.Proof.Gen.Pre_in_plane
public import Idealize.ShloMosaic.Lib.ReduceAll

@[expose] public section

noncomputable section

namespace Cert.Places

open Idealize.ShloMosaic

section Plane

open Cert.KernelIdeal

/-- The index words lie in the plane, and their sixty-four pairs are pairwise different. -/
structure InPlane (x y : S64.Idx → BitVec 32) : Prop where
  row : ∀ k, (x k).toNat < 1024
  col : ∀ k, (y k).toNat < 1024
  apart : ∀ k l, place x y k = place x y l → k = l

/-- For words in the plane, the place is row times 1024 plus column, without wrapping. -/
theorem InPlane.toNat {x y : S64.Idx → BitVec 32} (h : InPlane x y) (k : S64.Idx) :
    (place x y k).toNat = (x k).toNat * 1024 + (y k).toNat := by
  have hx := h.row k
  have hy := h.col k
  unfold place
  rw [BitVec.toNat_add, BitVec.toNat_mul, BitVec.toNat_ofNat]
  omega

/-- Words in the plane name good places. -/
theorem InPlane.good {x y : S64.Idx → BitVec 32} (h : InPlane x y) : Good x y where
  lt k := by
    have hx := h.row k
    have hy := h.col k
    rw [h.toNat]; omega
  inj k l e := h.apart k l (BitVec.eq_of_toNat_eq e)

/-- A word that, read signed, is at least 0 and below 1024 is below 1024. -/
theorem small_word {a : BitVec 32} (lo : (0#32 : BitVec 32).toInt ≤ a.toInt) (hi : a.toInt < (1024#32 : BitVec 32).toInt) : a.toNat < 1024 := by
  rw [show (0#32 : BitVec 32).toInt = 0 from rfl, BitVec.toInt_eq_toNat_cond] at lo
  rw [show (1024#32 : BitVec 32).toInt = 1024 from rfl, BitVec.toInt_eq_toNat_cond] at hi
  have := a.isLt
  split at lo <;> omega

end Plane

section Reading

open Cert.Pre_in_plane Cert.Pre_in_plane.Facts

/-- The entry of the 64 by 64 table at row `k` and column `l`. -/
def cell (k l : S64.Idx) : S64x64.Idx := fun
  | 0 => k 0
  | 1 => l 0

/-- An array spread along the rows of the table holds at (`k`, `l`) its entry `k`. -/
theorem spread_rows {α : Type} (z : S64.Idx → α) (k l : S64.Idx) :
    broadcastInDim S64x64 ![0, 1] bcast_S64x1_S64x64_0_1 (broadcastInDim S64x1 ![0] bcast_S64_S64x1_0 z) (cell k l) = z k := by
  refine congrArg z (funext fun a => ?_)
  match a with
  | 0 => rfl

/-- An array spread along the columns of the table holds at (`k`, `l`) its entry `l`. -/
theorem spread_cols {α : Type} (z : S64.Idx → α) (k l : S64.Idx) :
    broadcastInDim S64x64 ![0, 1] bcast_S1x64_S64x64_0_1 (broadcastInDim S1x64 ![1] bcast_S64_S1x64_1 z) (cell k l) = z l := by
  refine congrArg z (funext fun a => ?_)
  match a with
  | 0 => rfl

/-- Entries whose counting words agree are the same entry. -/
theorem entry_of_count (k l : S64.Idx) (h : iotaInDim S64 32 0 k = iotaInDim S64 32 0 l) : k = l := by
  have e : (BitVec.ofNat 32 (k 0).val).toNat = (BitVec.ofNat 32 (l 0).val).toNat := congrArg BitVec.toNat h
  have hk : (k 0).val < 64 := (k 0).isLt
  have hl : (l 0).val < 64 := (l 0).isLt
  rw [BitVec.toNat_ofNat, BitVec.toNat_ofNat] at e
  funext a
  match a with
  | 0 => exact Fin.ext (by omega)

variable {F : FTy → Type} [FloatOps F]

/-- Where the precondition is all ones, the words lie in the plane. -/
theorem inPlane_of_pre (B : S4x1024x1024.Idx → F .f32) (bt : S64.Idx → F .f32) (x y : S64.Idx → BitVec 32)
    (h : Cert.Pre_in_plane.fn (F := F) B bt x y = fun _ => 1#1) : InPlane x y := by
  have e := congrFun h (fun a : Fin 0 => a.elim0)
  obtain ⟨e', hall⟩ := IntOp.andi_eq_one.1 e
  obtain ⟨hrow, hcol⟩ := IntOp.andi_eq_one.1 e'
  have row := fun k => IntOp.andi_eq_one.1 (Host.reduce_andi_all _ _ _ _ _ hrow k)
  have col := fun k => IntOp.andi_eq_one.1 (Host.reduce_andi_all _ _ _ _ _ hcol k)
  refine ⟨fun k => small_word (IntOp.cmpi_sge.1 (row k).1) (IntOp.cmpi_slt.1 (row k).2),
    fun k => small_word (IntOp.cmpi_sge.1 (col k).1) (IntOp.cmpi_slt.1 (col k).2), fun k l hkl => ?_⟩
  by_contra hne
  refine IntOp.not_eq_one.1 (Host.reduce_andi_all _ _ _ _ _ hall (cell k l)) (IntOp.andi_eq_one.2 ⟨IntOp.cmpi_eq.2 ?_, IntOp.cmpi_ne.2 ?_⟩)
  · exact (spread_rows _ k l).trans (hkl.trans (spread_cols _ k l).symm)
  · exact fun hi => hne (entry_of_count k l ((spread_rows _ k l).symm.trans (hi.trans (spread_cols _ k l))))

end Reading

end Cert.Places

end
-- ==== Proof.Equation.lean ====
/-
  The two results agree on extended reals. The reference adds up, at each element of the array, the values `bt k` whose
  index row (0, x k, y k) names that element; the program leaves the old element plus `bt k` at place `k` of the flat
  array. For words in the plane the two are one sum: at most one entry names an element, and entry `k` names (0, x k, y k)
  exactly where its flat place is that element's.
-/
module

public import proofs.«01_k».proof.Proof.Main
public import proofs.«01_k».proof.Proof.Words
public import proofs.«01_k».proof.Proof.Gen.ReferenceIdeal
public import Idealize.ShloMosaic.Lib.Routing.OpsPair
public import Idealize.ShloMosaic.Lib.Pipeline.Value

@[expose] public section

noncomputable section

namespace Cert.Bump

open Cert.Places
open Idealize.ShloMosaic

/-! ## The reference's index rows -/

section Rows

open Cert.ReferenceIdeal Cert.ReferenceIdeal.Gen Cert.ReferenceIdeal.Facts

/-- A word array with 1024 added to its negative words. -/
abbrev wrapped (x : S64.Idx → BitVec 32) : S64.Idx → BitVec 32 :=
  select (cmpi .slt x (broadcastInDim S64 ![] bcast_S_S64 (constantI S_ 32 0#32))) (addi x (broadcastInDim S64 ![] bcast_S_S64 (constantI S_ 32 1024#32))) x

/-- The reference's index rows: zero, the row word, the column word. -/
abbrev indexRows (x y : S64.Idx → BitVec 32) : S64x3.Idx → BitVec 32 :=
  concatenate S64x3 1
    [⟨S64x1, broadcastInDim S64x1 ![0] bcast_S64_S64x1_0 (id (broadcastInDim S64 ![] bcast_S_S64 (constantI S_ 32 0#32)))⟩,
      ⟨S64x1, broadcastInDim S64x1 ![0] bcast_S64_S64x1_0 (wrapped x)⟩, ⟨S64x1, broadcastInDim S64x1 ![0] bcast_S64_S64x1_0 (wrapped y)⟩]
    concatenates_S64x1_S64x1_S64x1_S64x3_d1

/-- Component `c` of index row `k`. -/
def component (k : S64.Idx) (c : Fin 3) : S64x3.Idx := fun
  | 0 => k 0
  | 1 => c

/-- A word below 1024 is not negative, so nothing is added to it. -/
theorem wrapped_small {x : S64.Idx → BitVec 32} (k : S64.Idx) (h : (x k).toNat < 1024) : wrapped x k = x k := by
  have hn : IntOp.cmpi .slt (x k) 0#32 ≠ 1#1 := fun e => by
    have e' := IntOp.cmpi_slt.1 e
    rw [show (0#32 : BitVec 32).toInt = 0 from rfl, BitVec.toInt_eq_toNat_cond] at e'
    split at e' <;> omega
  exact if_neg hn

/-- An index row starts with zero. -/
theorem indexRows_zero (x y : S64.Idx → BitVec 32) (k : S64.Idx) : indexRows x y (component k 0) = 0#32 := rfl
/-- Then comes the row word. -/
theorem indexRows_row (x y : S64.Idx → BitVec 32) (k : S64.Idx) : indexRows x y (component k 1) = wrapped x k := by
  refine congrArg (wrapped x) (funext fun a => ?_)
  match a with
  | 0 => rfl
/-- Then the column word. -/
theorem indexRows_col (x y : S64.Idx → BitVec 32) (k : S64.Idx) : indexRows x y (component k 2) = wrapped y k := by
  refine congrArg (wrapped y) (funext fun a => ?_)
  match a with
  | 0 => rfl

/-- The reference's scatter reads its start on axis `a` off component `a` of the index row. -/
theorem start_axis (k : S64.Idx) (idx : S64x3.Idx → BitVec 32) (a : Fin 3) :
    scatter_S4x1024x1024_S64x3_S64_n_012_012_1.start k idx a = (idx (component k a)).toInt := by
  unfold ScatterDims.start
  match a with
  | 0 =>
    rw [dif_pos (by decide)]
    refine congrArg (fun i => (idx i).toInt) (funext fun b => ?_)
    match b with
    | 0 => rfl
    | 1 => rfl
  | 1 =>
    rw [dif_pos (by decide)]
    refine congrArg (fun i => (idx i).toInt) (funext fun b => ?_)
    match b with
    | 0 => rfl
    | 1 => rfl
  | 2 =>
    rw [dif_pos (by decide)]
    refine congrArg (fun i => (idx i).toInt) (funext fun b => ?_)
    match b with
    | 0 => rfl
    | 1 => rfl

/-- Each update is one element: it has no window. -/
theorem window_axis (k : S64.Idx) (a : Fin 3) : scatter_S4x1024x1024_S64x3_S64_n_012_012_1.window k a = 0 := by
  unfold ScatterDims.window
  exact dif_neg (by revert a; decide)

/-- Entry `k` names the element `i`: plane 0, row `x k`, column `y k`. -/
def Names (x y : S64.Idx → BitVec 32) (i : S4x1024x1024.Idx) (k : S64.Idx) : Prop :=
  (i 0).val = 0 ∧ (x k).toNat = (i 1).val ∧ (y k).toNat = (i 2).val

/-- For words in the plane, the reference's update `k` lands on the element that entry `k` names. -/
theorem lands_iff {x y : S64.Idx → BitVec 32} (h : InPlane x y) (k : S64.Idx) (i : S4x1024x1024.Idx) :
    scatter_S4x1024x1024_S64x3_S64_n_012_012_1.resultIdx? k (indexRows x y) = some i ↔ Names x y i k := by
  have hx := h.row k
  have hy := h.col k
  have ex : (x k).toInt = ((x k).toNat : ℤ) := BitVec.toInt_eq_toNat_of_lt (by omega)
  have ey : (y k).toInt = ((y k).toNat : ℤ) := BitVec.toInt_eq_toNat_of_lt (by omega)
  have s0 : scatter_S4x1024x1024_S64x3_S64_n_012_012_1.start k (indexRows x y) 0 = 0 := (start_axis k _ 0).trans (by rw [indexRows_zero]; rfl)
  have s1 : scatter_S4x1024x1024_S64x3_S64_n_012_012_1.start k (indexRows x y) 1 = ((x k).toNat : ℤ) :=
    (start_axis k _ 1).trans (by rw [indexRows_row, wrapped_small k hx, ex])
  have s2 : scatter_S4x1024x1024_S64x3_S64_n_012_012_1.start k (indexRows x y) 2 = ((y k).toNat : ℤ) :=
    (start_axis k _ 2).trans (by rw [indexRows_col, wrapped_small k hy, ey])
  rw [Routing.resultIdx?_eq_some]
  constructor
  · intro q
    have q0 := q 0
    have q1 := q 1
    have q2 := q 2
    rw [s0, window_axis] at q0
    rw [s1, window_axis] at q1
    rw [s2, window_axis] at q2
    exact ⟨by omega, by omega, by omega⟩
  · rintro ⟨q0, q1, q2⟩ a
    match a with
    | 0 => rw [s0, window_axis]; omega
    | 1 => rw [s1, window_axis]; omega
    | 2 => rw [s2, window_axis]; omega

/-- The reference's result at an element that entry `k` names: the old element plus `bt k`. -/
theorem reference_named (B : S4x1024x1024.Idx → EReal) (bt : S64.Idx → EReal) {x y : S64.Idx → BitVec 32} (h : InPlane x y)
    (i : S4x1024x1024.Idx) (k : S64.Idx) (hk : Names x y i k) :
    Ideal.hostScatterAdd scatter_S4x1024x1024_S64x3_S64_n_012_012_1 B (indexRows x y) bt i = B i + bt k := by
  unfold Ideal.hostScatterAdd
  rw [show (Finset.univ.filter fun j => scatter_S4x1024x1024_S64x3_S64_n_012_012_1.resultIdx? j (indexRows x y) = some i) = {k} from ?_, Finset.sum_singleton]
  ext j
  rw [Finset.mem_filter, Finset.mem_singleton, lands_iff h]
  constructor
  · rintro ⟨-, hj⟩
    refine h.apart j k (BitVec.eq_of_toNat_eq ?_)
    rw [h.toNat, h.toNat, hj.2.1, hj.2.2, hk.2.1, hk.2.2]
  · rintro rfl
    exact ⟨Finset.mem_univ _, hk⟩

/-- The reference's result at an element that no entry names: the old element. -/
theorem reference_other (B : S4x1024x1024.Idx → EReal) (bt : S64.Idx → EReal) {x y : S64.Idx → BitVec 32} (h : InPlane x y)
    (i : S4x1024x1024.Idx) (hi : ∀ k, ¬ Names x y i k) :
    Ideal.hostScatterAdd scatter_S4x1024x1024_S64x3_S64_n_012_012_1 B (indexRows x y) bt i = B i := by
  unfold Ideal.hostScatterAdd
  rw [Finset.filter_eq_empty_iff.2 fun j _ => fun hj => hi j ((lands_iff h j i).1 hj), Finset.sum_empty, add_zero]

end Rows

/-! ## The program's result at an element -/

section Flat

open Cert.KernelIdeal Cert.KernelIdeal.Gen

/-- The element of the flat array that holds the element `i`. -/
abbrev flatOf (i : S4x1024x1024.Idx) : S4194304.Idx := Shape.reshapeEquiv shapeCasts_S4194304_S4x1024x1024 i

/-- Laid out flat, the element `i` stands at plane times 1048576 plus row times 1024 plus column. -/
theorem flatOf_val (i : S4x1024x1024.Idx) : (flatOf i 0).val = (i 0).val * 1048576 + (i 1).val * 1024 + (i 2).val := by
  have e := Shape.rowMajor_reshapeEquiv shapeCasts_S4194304_S4x1024x1024 i
  rw [Shape.rowMajor_val_one, Shape.rowMajor_val_three] at e
  refine e.trans ?_
  show ((i 0).val * 1024 + (i 1).val) * 1024 + (i 2).val = _
  omega

/-- For words in the plane, entry `k` names `i` exactly where its place is `i`'s in the flat array. -/
theorem names_iff {x y : S64.Idx → BitVec 32} (h : InPlane x y) (i : S4x1024x1024.Idx) (k : S64.Idx) :
    Names x y i k ↔ (place x y k).toNat = (flatOf i 0).val := by
  have hx := h.row k
  have hy := h.col k
  have h1 : (i 1).val < 1024 := (i 1).isLt
  have h2 : (i 2).val < 1024 := (i 2).isLt
  rw [h.toNat, flatOf_val]
  unfold Names
  omega

/-- The array laid out flat holds at `i`'s place the element `i`. -/
theorem flattened_flatOf {F : FTy → Type} (B : S4x1024x1024.Idx → F .f32) (i : S4x1024x1024.Idx) : flattened B (flatOf i) = B i :=
  congrArg B ((Shape.reshapeEquiv_reshapeEquiv _ _ i).trans (Shape.reshapeEquiv_self _ i))

end Flat

/-- The program's result is the reference's. -/
theorem equation (B : Cert.KernelIdeal.S4x1024x1024.Idx → EReal) (bt : Cert.KernelIdeal.S64.Idx → EReal) {x y : Cert.KernelIdeal.S64.Idx → BitVec 32} (h : InPlane x y) :
    bumpedArray (F := Ideal) B bt x y
      = Ideal.hostScatterAdd Cert.ReferenceIdeal.scatter_S4x1024x1024_S64x3_S64_n_012_012_1 B (indexRows x y) bt := by
  funext i
  by_cases hk : ∃ k, Names x y i k
  · obtain ⟨k, hk⟩ := hk
    rw [reference_named B bt h i k hk]
    refine (bumped_named (F := Ideal) bt h.good (flattened B) (flatOf i) k ((names_iff h i k).1 hk)).trans ?_
    rw [flattened_flatOf]; rfl
  · have hn : ∀ k, ¬ Names x y i k := fun k hk' => hk ⟨k, hk'⟩
    rw [reference_other B bt h i hn]
    refine (bumped_other (F := Ideal) bt x y (flattened B) (flatOf i) fun k hk' => hn k ((names_iff h i k).2 hk')).trans ?_
    exact flattened_flatOf (F := Ideal) B i

end Cert.Bump

end
-- ==== Proof.lean ====
/-
  The certificate: both kernel programs and the reference run, leave their arguments as they were and every semaphore
  counter at zero; and on extended reals the kernel's result array is the reference's.

  The two kernel programs have the same text, so one run (`Cert.Bump.run_main`), stated for any float values, gives both.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_plane
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.Kernel Cert.Bump Cert.Places

/-- `Kernel` leaves its arguments as they were, and every counter at zero. -/
theorem frame_kernel : Cert.quiescent_Kernel := fun m ρ h =>
  (θ_run Cert.KernelIdeal.defs _ _).mono (fun _ q => ⟨fun c => ⟨(q.1 c).1, (q.1 c).2.1, (q.1 c).2.2.1, (q.1 c).2.2.2.1⟩, q.2⟩)
    (run_main (F := Bits) m ρ fun d => (inPlane_of_pre _ _ _ _ (h d)).good)

/-- `KernelIdeal` leaves its arguments as they were, and every counter at zero. -/
theorem frame_kernelIdeal : Cert.quiescent_KernelIdeal := fun m ρ h =>
  (θ_run Cert.KernelIdeal.defs _ _).mono (fun _ q => ⟨fun c => ⟨(q.1 c).1, (q.1 c).2.1, (q.1 c).2.2.1, (q.1 c).2.2.2.1⟩, q.2⟩)
    (run_main (F := Ideal) m ρ fun d => (inPlane_of_pre _ _ _ _ (h d)).good)

/-- The reference leaves its arguments as they were; it has no semaphores. -/
theorem frame_reference : Cert.quiescent_ReferenceIdeal := fun m ρ _ =>
  (θ_run Cert.ReferenceIdeal.defs _ _).mono (fun r q => ⟨fun c => (q c).2, sem_eq_zero_of_no_sems (by decide) r.2⟩)
    (Cert.ReferenceIdeal.Value.run (F := Ideal) m ρ)

/-- On extended reals the kernel's result array is the reference's. -/
theorem value : Cert.algebraic_KernelIdeal_ReferenceIdeal := fun m ρ m' ρ' h same => by
  have hp := fun d => inPlane_of_pre _ _ _ _ (h d)
  refine ⟨fun d => returned m d, ?_, ?_⟩
  · exact (θ_run Cert.KernelIdeal.defs _ _).mono
      (fun _ q c => ⟨(q.1 c).2.2.2.2, (q.1 c).1, (q.1 c).2.1, (q.1 c).2.2.1, (q.1 c).2.2.2.1⟩)
      (run_main (F := Ideal) m ρ fun d => (hp d).good)
  · refine (θ_run Cert.ReferenceIdeal.defs _ _).mono (fun r q c => ⟨(q c).1.trans ?_, (q c).2⟩) (Cert.ReferenceIdeal.Value.run (F := Ideal) m' ρ')
    obtain ⟨e0, e1, e2, e3⟩ := same c
    rw [e0, e1, e2, e3]
    exact (equation _ _ (hp c)).symm

/-- Every claim of the certificate. -/
theorem claim : Cert.Claim :=
  ⟨Cert.Kernel.Gen.facts, Cert.KernelIdeal.Gen.facts, Cert.ReferenceIdeal.Gen.facts, Cert.Pre_in_plane.Gen.facts,
    frame_kernel, frame_kernelIdeal, frame_reference, fun m ρ _ => frame_reference m ρ trivial, trivial, value⟩

end Cert.Proof

end
